-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 2048]⟩ ⟨2, ![64, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S16x2048 : Shape := ⟨2, ![16, 2048]⟩
abbrev S6x2048x512 : Shape := ⟨3, ![6, 2048, 512]⟩
abbrev S6x512x2048 : Shape := ⟨3, ![6, 512, 2048]⟩
abbrev S2x3x64x2048 : Shape := ⟨4, ![2, 3, 64, 2048]⟩
abbrev S3x16x2048 : Shape := ⟨3, ![3, 16, 2048]⟩
abbrev S6 : Shape := ⟨1, ![6]⟩
abbrev S3x3 : Shape := ⟨2, ![3, 3]⟩
abbrev S2x3 : Shape := ⟨2, ![2, 3]⟩
abbrev S3 : Shape := ⟨1, ![3]⟩
abbrev S1 : Shape := ⟨1, ![1]⟩
abbrev S_ : Shape := ⟨0, ![]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S64x512 : Shape := ⟨2, ![64, 512]⟩
abbrev S1x1 : Shape := ⟨2, ![1, 1]⟩
abbrev S1x1x64x2048 : Shape := ⟨4, ![1, 1, 64, 2048]⟩
abbrev S1x16x2048 : Shape := ⟨3, ![1, 16, 2048]⟩

abbrev nBuf : Space → Nat
  | .hbm => 8
  | .vmem => 9
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S16x2048, .f32⟩
  | .local _ .vmem, ⟨0, _⟩ => ⟨S64x2048, .f32⟩
  | .local _ .vmem, ⟨1, _⟩ => ⟨S16x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .bf16⟩
  | .local _ .vmem, ⟨5, _⟩ => ⟨S6x2048x512, .f32⟩
  | .local _ .vmem, ⟨6, _⟩ => ⟨S6x512x2048, .f32⟩
  | .local _ .vmem, ⟨7, _⟩ => ⟨S2x3x64x2048, .bf16⟩
  | .local _ .vmem, ⟨8, _⟩ => ⟨S3x16x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d60 : Dev nD) : Nat :=
  let c0_i32_378 : BitVec 32 := 0#32
  let v60 : BitVec 32 := Dev.word d60
  let c1_i32_62 : BitVec 32 := 1#32
  let v61 : BitVec 32 := Scalar.divsi v60 c1_i32_62
  let c4_i32_61 : BitVec 32 := 4#32
  let v62 : BitVec 32 := Scalar.remsi v61 c4_i32_61
  let c0_i32_368 : BitVec 32 := 0#32
  let v347 : BitVec 32 := Scalar.addi v62 c0_i32_368
  let c1_i32_369 : BitVec 32 := 1#32
  let v348 : BitVec 32 := Scalar.addi v347 c1_i32_369
  let c4_i32_370 : BitVec 32 := 4#32
  let c0_i32_371 : BitVec 32 := 0#32
  let v349 : BitVec 1 := Scalar.cmpi .eq c4_i32_370 c0_i32_371
  let c1_i32_372 : BitVec 32 := 1#32
  let v350 : BitVec 32 := Scalar.select v349 c1_i32_372 c4_i32_370
  let v351 : BitVec 32 := Scalar.remsi v348 v350
  let c0_i32_374 : BitVec 32 := 0#32
  let v353 : BitVec 1 := Scalar.cmpi .slt v351 c0_i32_374
  let c0_i32_375 : BitVec 32 := 0#32
  let v354 : BitVec 1 := Scalar.cmpi .slt v350 c0_i32_375
  let v355 : BitVec 1 := Scalar.xori v353 v354
  let c0_i32_373 : BitVec 32 := 0#32
  let v352 : BitVec 1 := Scalar.cmpi .ne v351 c0_i32_373
  let v356 : BitVec 1 := Scalar.andi v355 v352
  let v357 : BitVec 32 := Scalar.addi v351 v350
  let v358 : BitVec 32 := Scalar.select v356 v357 v351
  let c1_i32_377 : BitVec 32 := 1#32
  let v359 : BitVec 32 := Scalar.muli v358 c1_i32_377
  let v360 : BitVec 32 := Scalar.addi c0_i32_378 v359
  v360.toNat
def k0_dev2 (d60 : Dev nD) : Nat :=
  let c0_i32_389 : BitVec 32 := 0#32
  let v60 : BitVec 32 := Dev.word d60
  let c1_i32_62 : BitVec 32 := 1#32
  let v61 : BitVec 32 := Scalar.divsi v60 c1_i32_62
  let c4_i32_61 : BitVec 32 := 4#32
  let v62 : BitVec 32 := Scalar.remsi v61 c4_i32_61
  let c1_i32_379 : BitVec 32 := 1#32
  let v361 : BitVec 32 := Scalar.addi v62 c1_i32_379
  let c1_i32_380 : BitVec 32 := 1#32
  let v362 : BitVec 32 := Scalar.addi v361 c1_i32_380
  let c4_i32_381 : BitVec 32 := 4#32
  let c0_i32_382 : BitVec 32 := 0#32
  let v363 : BitVec 1 := Scalar.cmpi .eq c4_i32_381 c0_i32_382
  let c1_i32_383 : BitVec 32 := 1#32
  let v364 : BitVec 32 := Scalar.select v363 c1_i32_383 c4_i32_381
  let v365 : BitVec 32 := Scalar.remsi v362 v364
  let c0_i32_385 : BitVec 32 := 0#32
  let v367 : BitVec 1 := Scalar.cmpi .slt v365 c0_i32_385
  let c0_i32_386 : BitVec 32 := 0#32
  let v368 : BitVec 1 := Scalar.cmpi .slt v364 c0_i32_386
  let v369 : BitVec 1 := Scalar.xori v367 v368
  let c0_i32_384 : BitVec 32 := 0#32
  let v366 : BitVec 1 := Scalar.cmpi .ne v365 c0_i32_384
  let v370 : BitVec 1 := Scalar.andi v369 v366
  let v371 : BitVec 32 := Scalar.addi v365 v364
  let v372 : BitVec 32 := Scalar.select v370 v371 v365
  let c1_i32_388 : BitVec 32 := 1#32
  let v373 : BitVec 32 := Scalar.muli v372 c1_i32_388
  let v374 : BitVec 32 := Scalar.addi c0_i32_389 v373
  v374.toNat
def k0_dev3 (d60 : Dev nD) : Nat :=
  let c0_i32_400 : BitVec 32 := 0#32
  let v60 : BitVec 32 := Dev.word d60
  let c1_i32_62 : BitVec 32 := 1#32
  let v61 : BitVec 32 := Scalar.divsi v60 c1_i32_62
  let c4_i32_61 : BitVec 32 := 4#32
  let v62 : BitVec 32 := Scalar.remsi v61 c4_i32_61
  let c2_i32_390 : BitVec 32 := 2#32
  let v375 : BitVec 32 := Scalar.addi v62 c2_i32_390
  let c1_i32_391 : BitVec 32 := 1#32
  let v376 : BitVec 32 := Scalar.addi v375 c1_i32_391
  let c4_i32_392 : BitVec 32 := 4#32
  let c0_i32_393 : BitVec 32 := 0#32
  let v377 : BitVec 1 := Scalar.cmpi .eq c4_i32_392 c0_i32_393
  let c1_i32_394 : BitVec 32 := 1#32
  let v378 : BitVec 32 := Scalar.select v377 c1_i32_394 c4_i32_392
  let v379 : BitVec 32 := Scalar.remsi v376 v378
  let c0_i32_396 : BitVec 32 := 0#32
  let v381 : BitVec 1 := Scalar.cmpi .slt v379 c0_i32_396
  let c0_i32_397 : BitVec 32 := 0#32
  let v382 : BitVec 1 := Scalar.cmpi .slt v378 c0_i32_397
  let v383 : BitVec 1 := Scalar.xori v381 v382
  let c0_i32_395 : BitVec 32 := 0#32
  let v380 : BitVec 1 := Scalar.cmpi .ne v379 c0_i32_395
  let v384 : BitVec 1 := Scalar.andi v383 v380
  let v385 : BitVec 32 := Scalar.addi v379 v378
  let v386 : BitVec 32 := Scalar.select v384 v385 v379
  let c1_i32_399 : BitVec 32 := 1#32
  let v387 : BitVec 32 := Scalar.muli v386 c1_i32_399
  let v388 : BitVec 32 := Scalar.addi c0_i32_400 v387
  v388.toNat
def k0_dev4 (d60 : Dev nD) : Nat :=
  let c0_i32_417 : BitVec 32 := 0#32
  let v60 : BitVec 32 := Dev.word d60
  let c1_i32_62 : BitVec 32 := 1#32
  let v61 : BitVec 32 := Scalar.divsi v60 c1_i32_62
  let c4_i32_61 : BitVec 32 := 4#32
  let v62 : BitVec 32 := Scalar.remsi v61 c4_i32_61
  let c0_i32_402 : BitVec 32 := 0#32
  let v389 : BitVec 32 := Scalar.addi v62 c0_i32_402
  let c1_i32_403 : BitVec 32 := 1#32
  let v390 : BitVec 32 := Scalar.addi v389 c1_i32_403
  let c4_i32_404 : BitVec 32 := 4#32
  let c0_i32_405 : BitVec 32 := 0#32
  let v391 : BitVec 1 := Scalar.cmpi .eq c4_i32_404 c0_i32_405
  let c1_i32_406 : BitVec 32 := 1#32
  let v392 : BitVec 32 := Scalar.select v391 c1_i32_406 c4_i32_404
  let v393 : BitVec 32 := Scalar.remsi v390 v392
  let c0_i32_408 : BitVec 32 := 0#32
  let v395 : BitVec 1 := Scalar.cmpi .slt v393 c0_i32_408
  let c0_i32_409 : BitVec 32 := 0#32
  let v396 : BitVec 1 := Scalar.cmpi .slt v392 c0_i32_409
  let v397 : BitVec 1 := Scalar.xori v395 v396
  let c0_i32_407 : BitVec 32 := 0#32
  let v394 : BitVec 1 := Scalar.cmpi .ne v393 c0_i32_407
  let v398 : BitVec 1 := Scalar.andi v397 v394
  let v399 : BitVec 32 := Scalar.addi v393 v392
  let v400 : BitVec 32 := Scalar.select v398 v399 v393
  let c1_i32_416 : BitVec 32 := 1#32
  let v401 : BitVec 32 := Scalar.muli v400 c1_i32_416
  let v402 : BitVec 32 := Scalar.addi c0_i32_417 v401
  v402.toNat
def k0_dev5 (d60 : Dev nD) : Nat :=
  let c0_i32_435 : BitVec 32 := 0#32
  let v60 : BitVec 32 := Dev.word d60
  let c1_i32_62 : BitVec 32 := 1#32
  let v61 : BitVec 32 := Scalar.divsi v60 c1_i32_62
  let c4_i32_61 : BitVec 32 := 4#32
  let v62 : BitVec 32 := Scalar.remsi v61 c4_i32_61
  let c1_i32_420 : BitVec 32 := 1#32
  let v409 : BitVec 32 := Scalar.addi v62 c1_i32_420
  let c1_i32_421 : BitVec 32 := 1#32
  let v410 : BitVec 32 := Scalar.addi v409 c1_i32_421
  let c4_i32_422 : BitVec 32 := 4#32
  let c0_i32_423 : BitVec 32 := 0#32
  let v411 : BitVec 1 := Scalar.cmpi .eq c4_i32_422 c0_i32_423
  let c1_i32_424 : BitVec 32 := 1#32
  let v412 : BitVec 32 := Scalar.select v411 c1_i32_424 c4_i32_422
  let v413 : BitVec 32 := Scalar.remsi v410 v412
  let c0_i32_426 : BitVec 32 := 0#32
  let v415 : BitVec 1 := Scalar.cmpi .slt v413 c0_i32_426
  let c0_i32_427 : BitVec 32 := 0#32
  let v416 : BitVec 1 := Scalar.cmpi .slt v412 c0_i32_427
  let v417 : BitVec 1 := Scalar.xori v415 v416
  let c0_i32_425 : BitVec 32 := 0#32
  let v414 : BitVec 1 := Scalar.cmpi .ne v413 c0_i32_425
  let v418 : BitVec 1 := Scalar.andi v417 v414
  let v419 : BitVec 32 := Scalar.addi v413 v412
  let v420 : BitVec 32 := Scalar.select v418 v419 v413
  let c1_i32_434 : BitVec 32 := 1#32
  let v421 : BitVec 32 := Scalar.muli v420 c1_i32_434
  let v422 : BitVec 32 := Scalar.addi c0_i32_435 v421
  v422.toNat
def k0_dev6 (d60 : Dev nD) : Nat :=
  let c0_i32_453 : BitVec 32 := 0#32
  let v60 : BitVec 32 := Dev.word d60
  let c1_i32_62 : BitVec 32 := 1#32
  let v61 : BitVec 32 := Scalar.divsi v60 c1_i32_62
  let c4_i32_61 : BitVec 32 := 4#32
  let v62 : BitVec 32 := Scalar.remsi v61 c4_i32_61
  let c2_i32_438 : BitVec 32 := 2#32
  let v429 : BitVec 32 := Scalar.addi v62 c2_i32_438
  let c1_i32_439 : BitVec 32 := 1#32
  let v430 : BitVec 32 := Scalar.addi v429 c1_i32_439
  let c4_i32_440 : BitVec 32 := 4#32
  let c0_i32_441 : BitVec 32 := 0#32
  let v431 : BitVec 1 := Scalar.cmpi .eq c4_i32_440 c0_i32_441
  let c1_i32_442 : BitVec 32 := 1#32
  let v432 : BitVec 32 := Scalar.select v431 c1_i32_442 c4_i32_440
  let v433 : BitVec 32 := Scalar.remsi v430 v432
  let c0_i32_444 : BitVec 32 := 0#32
  let v435 : BitVec 1 := Scalar.cmpi .slt v433 c0_i32_444
  let c0_i32_445 : BitVec 32 := 0#32
  let v436 : BitVec 1 := Scalar.cmpi .slt v432 c0_i32_445
  let v437 : BitVec 1 := Scalar.xori v435 v436
  let c0_i32_443 : BitVec 32 := 0#32
  let v434 : BitVec 1 := Scalar.cmpi .ne v433 c0_i32_443
  let v438 : BitVec 1 := Scalar.andi v437 v434
  let v439 : BitVec 32 := Scalar.addi v433 v432
  let v440 : BitVec 32 := Scalar.select v438 v439 v433
  let c1_i32_452 : BitVec 32 := 1#32
  let v441 : BitVec 32 := Scalar.muli v440 c1_i32_452
  let v442 : BitVec 32 := Scalar.addi c0_i32_453 v441
  v442.toNat
def k0_dev7 (d60 : Dev nD) : Nat :=
  let c0_i32_858 : BitVec 32 := 0#32
  let v60 : BitVec 32 := Dev.word d60
  let c1_i32_62 : BitVec 32 := 1#32
  let v61 : BitVec 32 := Scalar.divsi v60 c1_i32_62
  let c4_i32_61 : BitVec 32 := 4#32
  let v62 : BitVec 32 := Scalar.remsi v61 c4_i32_61
  let c0_i32_843 : BitVec 32 := 0#32
  let v770 : BitVec 32 := Scalar.addi v62 c0_i32_843
  let c1_i32_844 : BitVec 32 := 1#32
  let v771 : BitVec 32 := Scalar.addi v770 c1_i32_844
  let c4_i32_845 : BitVec 32 := 4#32
  let c0_i32_846 : BitVec 32 := 0#32
  let v772 : BitVec 1 := Scalar.cmpi .eq c4_i32_845 c0_i32_846
  let c1_i32_847 : BitVec 32 := 1#32
  let v773 : BitVec 32 := Scalar.select v772 c1_i32_847 c4_i32_845
  let v774 : BitVec 32 := Scalar.remsi v771 v773
  let c0_i32_849 : BitVec 32 := 0#32
  let v776 : BitVec 1 := Scalar.cmpi .slt v774 c0_i32_849
  let c0_i32_850 : BitVec 32 := 0#32
  let v777 : BitVec 1 := Scalar.cmpi .slt v773 c0_i32_850
  let v778 : BitVec 1 := Scalar.xori v776 v777
  let c0_i32_848 : BitVec 32 := 0#32
  let v775 : BitVec 1 := Scalar.cmpi .ne v774 c0_i32_848
  let v779 : BitVec 1 := Scalar.andi v778 v775
  let v780 : BitVec 32 := Scalar.addi v774 v773
  let v781 : BitVec 32 := Scalar.select v779 v780 v774
  let c1_i32_857 : BitVec 32 := 1#32
  let v782 : BitVec 32 := Scalar.muli v781 c1_i32_857
  let v783 : BitVec 32 := Scalar.addi c0_i32_858 v782
  v783.toNat
def k0_dev8 (d60 : Dev nD) : Nat :=
  let c0_i32_876 : BitVec 32 := 0#32
  let v60 : BitVec 32 := Dev.word d60
  let c1_i32_62 : BitVec 32 := 1#32
  let v61 : BitVec 32 := Scalar.divsi v60 c1_i32_62
  let c4_i32_61 : BitVec 32 := 4#32
  let v62 : BitVec 32 := Scalar.remsi v61 c4_i32_61
  let c1_i32_861 : BitVec 32 := 1#32
  let v790 : BitVec 32 := Scalar.addi v62 c1_i32_861
  let c1_i32_862 : BitVec 32 := 1#32
  let v791 : BitVec 32 := Scalar.addi v790 c1_i32_862
  let c4_i32_863 : BitVec 32 := 4#32
  let c0_i32_864 : BitVec 32 := 0#32
  let v792 : BitVec 1 := Scalar.cmpi .eq c4_i32_863 c0_i32_864
  let c1_i32_865 : BitVec 32 := 1#32
  let v793 : BitVec 32 := Scalar.select v792 c1_i32_865 c4_i32_863
  let v794 : BitVec 32 := Scalar.remsi v791 v793
  let c0_i32_867 : BitVec 32 := 0#32
  let v796 : BitVec 1 := Scalar.cmpi .slt v794 c0_i32_867
  let c0_i32_868 : BitVec 32 := 0#32
  let v797 : BitVec 1 := Scalar.cmpi .slt v793 c0_i32_868
  let v798 : BitVec 1 := Scalar.xori v796 v797
  let c0_i32_866 : BitVec 32 := 0#32
  let v795 : BitVec 1 := Scalar.cmpi .ne v794 c0_i32_866
  let v799 : BitVec 1 := Scalar.andi v798 v795
  let v800 : BitVec 32 := Scalar.addi v794 v793
  let v801 : BitVec 32 := Scalar.select v799 v800 v794
  let c1_i32_875 : BitVec 32 := 1#32
  let v802 : BitVec 32 := Scalar.muli v801 c1_i32_875
  let v803 : BitVec 32 := Scalar.addi c0_i32_876 v802
  v803.toNat
def k0_dev9 (d60 : Dev nD) : Nat :=
  let c0_i32_894 : BitVec 32 := 0#32
  let v60 : BitVec 32 := Dev.word d60
  let c1_i32_62 : BitVec 32 := 1#32
  let v61 : BitVec 32 := Scalar.divsi v60 c1_i32_62
  let c4_i32_61 : BitVec 32 := 4#32
  let v62 : BitVec 32 := Scalar.remsi v61 c4_i32_61
  let c2_i32_879 : BitVec 32 := 2#32
  let v810 : BitVec 32 := Scalar.addi v62 c2_i32_879
  let c1_i32_880 : BitVec 32 := 1#32
  let v811 : BitVec 32 := Scalar.addi v810 c1_i32_880
  let c4_i32_881 : BitVec 32 := 4#32
  let c0_i32_882 : BitVec 32 := 0#32
  let v812 : BitVec 1 := Scalar.cmpi .eq c4_i32_881 c0_i32_882
  let c1_i32_883 : BitVec 32 := 1#32
  let v813 : BitVec 32 := Scalar.select v812 c1_i32_883 c4_i32_881
  let v814 : BitVec 32 := Scalar.remsi v811 v813
  let c0_i32_885 : BitVec 32 := 0#32
  let v816 : BitVec 1 := Scalar.cmpi .slt v814 c0_i32_885
  let c0_i32_886 : BitVec 32 := 0#32
  let v817 : BitVec 1 := Scalar.cmpi .slt v813 c0_i32_886
  let v818 : BitVec 1 := Scalar.xori v816 v817
  let c0_i32_884 : BitVec 32 := 0#32
  let v815 : BitVec 1 := Scalar.cmpi .ne v814 c0_i32_884
  let v819 : BitVec 1 := Scalar.andi v818 v815
  let v820 : BitVec 32 := Scalar.addi v814 v813
  let v821 : BitVec 32 := Scalar.select v819 v820 v814
  let c1_i32_893 : BitVec 32 := 1#32
  let v822 : BitVec 32 := Scalar.muli v821 c1_i32_893
  let v823 : BitVec 32 := Scalar.addi c0_i32_894 v822
  v823.toNat
def k0_off1 (d60 : Dev nD) (c0_i32_1212 : BitVec 32) : Fin 2 → Nat :=
  let v60 : BitVec 32 := Dev.word d60
  let c1_i32_62 : BitVec 32 := 1#32
  let v61 : BitVec 32 := Scalar.divsi v60 c1_i32_62
  let c4_i32_61 : BitVec 32 := 4#32
  let v62 : BitVec 32 := Scalar.remsi v61 c4_i32_61
  let v1091 : BitVec 32 := Scalar.addi v62 c0_i32_1212
  let c1_i32_1213 : BitVec 32 := 1#32
  let v1092 : BitVec 32 := Scalar.addi v1091 c1_i32_1213
  let c4_i32_1214 : BitVec 32 := 4#32
  let c0_i32_1215 : BitVec 32 := 0#32
  let v1093 : BitVec 1 := Scalar.cmpi .eq c4_i32_1214 c0_i32_1215
  let c1_i32_1216 : BitVec 32 := 1#32
  let v1094 : BitVec 32 := Scalar.select v1093 c1_i32_1216 c4_i32_1214
  let v1095 : BitVec 32 := Scalar.remsi v1092 v1094
  let c0_i32_1218 : BitVec 32 := 0#32
  let v1097 : BitVec 1 := Scalar.cmpi .slt v1095 c0_i32_1218
  let c0_i32_1219 : BitVec 32 := 0#32
  let v1098 : BitVec 1 := Scalar.cmpi .slt v1094 c0_i32_1219
  let v1099 : BitVec 1 := Scalar.xori v1097 v1098
  let c0_i32_1217 : BitVec 32 := 0#32
  let v1096 : BitVec 1 := Scalar.cmpi .ne v1095 c0_i32_1217
  let v1100 : BitVec 1 := Scalar.andi v1099 v1096
  let v1101 : BitVec 32 := Scalar.addi v1095 v1094
  let v1102 : BitVec 32 := Scalar.select v1100 v1101 v1095
  let c16_i32 : BitVec 32 := 16#32
  let v1103 : BitVec 32 := Scalar.muli v1102 c16_i32
  let c0_i32_1228 : BitVec 32 := 0#32
  ![v1103.toNat, 0]
def k0_dev10 (d60 : Dev nD) : Nat :=
  let c0_i32_1225 : BitVec 32 := 0#32
  let v60 : BitVec 32 := Dev.word d60
  let c1_i32_62 : BitVec 32 := 1#32
  let v61 : BitVec 32 := Scalar.divsi v60 c1_i32_62
  let c4_i32_61 : BitVec 32 := 4#32
  let v62 : BitVec 32 := Scalar.remsi v61 c4_i32_61
  let c0_i32_1212 : BitVec 32 := 0#32
  let v1091 : BitVec 32 := Scalar.addi v62 c0_i32_1212
  let c1_i32_1213 : BitVec 32 := 1#32
  let v1092 : BitVec 32 := Scalar.addi v1091 c1_i32_1213
  let c4_i32_1214 : BitVec 32 := 4#32
  let c0_i32_1215 : BitVec 32 := 0#32
  let v1093 : BitVec 1 := Scalar.cmpi .eq c4_i32_1214 c0_i32_1215
  let c1_i32_1216 : BitVec 32 := 1#32
  let v1094 : BitVec 32 := Scalar.select v1093 c1_i32_1216 c4_i32_1214
  let v1095 : BitVec 32 := Scalar.remsi v1092 v1094
  let c0_i32_1218 : BitVec 32 := 0#32
  let v1097 : BitVec 1 := Scalar.cmpi .slt v1095 c0_i32_1218
  let c0_i32_1219 : BitVec 32 := 0#32
  let v1098 : BitVec 1 := Scalar.cmpi .slt v1094 c0_i32_1219
  let v1099 : BitVec 1 := Scalar.xori v1097 v1098
  let c0_i32_1217 : BitVec 32 := 0#32
  let v1096 : BitVec 1 := Scalar.cmpi .ne v1095 c0_i32_1217
  let v1100 : BitVec 1 := Scalar.andi v1099 v1096
  let v1101 : BitVec 32 := Scalar.addi v1095 v1094
  let v1102 : BitVec 32 := Scalar.select v1100 v1101 v1095
  let c1_i32_1224 : BitVec 32 := 1#32
  let v1104 : BitVec 32 := Scalar.muli v1102 c1_i32_1224
  let v1105 : BitVec 32 := Scalar.addi c0_i32_1225 v1104
  v1105.toNat
def k0_dev11 (d60 : Dev nD) : Nat :=
  let c0_i32_1243 : BitVec 32 := 0#32
  let v60 : BitVec 32 := Dev.word d60
  let c1_i32_62 : BitVec 32 := 1#32
  let v61 : BitVec 32 := Scalar.divsi v60 c1_i32_62
  let c4_i32_61 : BitVec 32 := 4#32
  let v62 : BitVec 32 := Scalar.remsi v61 c4_i32_61
  let c1_i32_1229 : BitVec 32 := 1#32
  let v1113 : BitVec 32 := Scalar.addi v62 c1_i32_1229
  let c1_i32_1230 : BitVec 32 := 1#32
  let v1114 : BitVec 32 := Scalar.addi v1113 c1_i32_1230
  let c4_i32_1231 : BitVec 32 := 4#32
  let c0_i32_1232 : BitVec 32 := 0#32
  let v1115 : BitVec 1 := Scalar.cmpi .eq c4_i32_1231 c0_i32_1232
  let c1_i32_1233 : BitVec 32 := 1#32
  let v1116 : BitVec 32 := Scalar.select v1115 c1_i32_1233 c4_i32_1231
  let v1117 : BitVec 32 := Scalar.remsi v1114 v1116
  let c0_i32_1235 : BitVec 32 := 0#32
  let v1119 : BitVec 1 := Scalar.cmpi .slt v1117 c0_i32_1235
  let c0_i32_1236 : BitVec 32 := 0#32
  let v1120 : BitVec 1 := Scalar.cmpi .slt v1116 c0_i32_1236
  let v1121 : BitVec 1 := Scalar.xori v1119 v1120
  let c0_i32_1234 : BitVec 32 := 0#32
  let v1118 : BitVec 1 := Scalar.cmpi .ne v1117 c0_i32_1234
  let v1122 : BitVec 1 := Scalar.andi v1121 v1118
  let v1123 : BitVec 32 := Scalar.addi v1117 v1116
  let v1124 : BitVec 32 := Scalar.select v1122 v1123 v1117
  let c1_i32_1242 : BitVec 32 := 1#32
  let v1126 : BitVec 32 := Scalar.muli v1124 c1_i32_1242
  let v1127 : BitVec 32 := Scalar.addi c0_i32_1243 v1126
  v1127.toNat
def k0_dev12 (d60 : Dev nD) : Nat :=
  let c0_i32_1261 : BitVec 32 := 0#32
  let v60 : BitVec 32 := Dev.word d60
  let c1_i32_62 : BitVec 32 := 1#32
  let v61 : BitVec 32 := Scalar.divsi v60 c1_i32_62
  let c4_i32_61 : BitVec 32 := 4#32
  let v62 : BitVec 32 := Scalar.remsi v61 c4_i32_61
  let c2_i32_1247 : BitVec 32 := 2#32
  let v1135 : BitVec 32 := Scalar.addi v62 c2_i32_1247
  let c1_i32_1248 : BitVec 32 := 1#32
  let v1136 : BitVec 32 := Scalar.addi v1135 c1_i32_1248
  let c4_i32_1249 : BitVec 32 := 4#32
  let c0_i32_1250 : BitVec 32 := 0#32
  let v1137 : BitVec 1 := Scalar.cmpi .eq c4_i32_1249 c0_i32_1250
  let c1_i32_1251 : BitVec 32 := 1#32
  let v1138 : BitVec 32 := Scalar.select v1137 c1_i32_1251 c4_i32_1249
  let v1139 : BitVec 32 := Scalar.remsi v1136 v1138
  let c0_i32_1253 : BitVec 32 := 0#32
  let v1141 : BitVec 1 := Scalar.cmpi .slt v1139 c0_i32_1253
  let c0_i32_1254 : BitVec 32 := 0#32
  let v1142 : BitVec 1 := Scalar.cmpi .slt v1138 c0_i32_1254
  let v1143 : BitVec 1 := Scalar.xori v1141 v1142
  let c0_i32_1252 : BitVec 32 := 0#32
  let v1140 : BitVec 1 := Scalar.cmpi .ne v1139 c0_i32_1252
  let v1144 : BitVec 1 := Scalar.andi v1143 v1140
  let v1145 : BitVec 32 := Scalar.addi v1139 v1138
  let v1146 : BitVec 32 := Scalar.select v1144 v1145 v1139
  let c1_i32_1260 : BitVec 32 := 1#32
  let v1148 : BitVec 32 := Scalar.muli v1146 c1_i32_1260
  let v1149 : BitVec 32 := Scalar.addi c0_i32_1261 v1148
  v1149.toNat
def k0_off2 (d60 : Dev nD) : Fin 2 → Nat :=
  let v60 : BitVec 32 := Dev.word d60
  let c1_i32_62 : BitVec 32 := 1#32
  let v61 : BitVec 32 := Scalar.divsi v60 c1_i32_62
  let c4_i32_61 : BitVec 32 := 4#32
  let v62 : BitVec 32 := Scalar.remsi v61 c4_i32_61
  let c16_i32_1292 : BitVec 32 := 16#32
  let v1178 : BitVec 32 := Scalar.muli v62 c16_i32_1292
  let v1179 : Index := Scalar.indexCast v1178
  let c0_1293 : Index := 0#32
  ![v1179.toNat, 0]
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x2048 : Shape := ⟨2, ![64, 2048]⟩
abbrev S2048x16384 : Shape := ⟨2, ![2048, 16384]⟩
abbrev S16384x2048 : Shape := ⟨2, ![16384, 2048]⟩
abbrev S64x16384 : Shape := ⟨2, ![64, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048x16384, .f32⟩
  | .hbm, ⟨2, _⟩ => ⟨S2048x16384, .f32⟩
  | .hbm, ⟨3, _⟩ => ⟨S2048x16384, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S64x16384, .f32⟩
  | .hbm, ⟨8, _⟩ => ⟨S_, .f32⟩
  | .hbm, ⟨9, _⟩ => ⟨S64x16384, .f32⟩
  | .hbm, ⟨10, _⟩ => ⟨S64x16384, .f32⟩
  | .hbm, ⟨11, _⟩ => ⟨S64x2048, .f32⟩
  | .hbm, ⟨12, _⟩ => ⟨S64x16384, .f32⟩
  | .hbm, ⟨13, _⟩ => ⟨S_, .f32⟩
  | .hbm, ⟨14, _⟩ => ⟨S64x16384, .f32⟩
  | .hbm, ⟨15, _⟩ => ⟨S64x16384, .f32⟩
  | .hbm, ⟨16, _⟩ => ⟨S64x2048, .f32⟩
  | .hbm, ⟨17, _⟩ => ⟨S64x16384, .f32⟩
  | .hbm, ⟨18, _⟩ => ⟨S_, .f32⟩
  | .hbm, ⟨19, _⟩ => ⟨S64x16384, .f32⟩
  | .hbm, ⟨20, _⟩ => ⟨S64x16384, .f32⟩
  | .hbm, ⟨21, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Spec.lean ====
/-
# What each device computes

The values the kernel's buffers hold, stated before and apart from any run: the partial product a device accumulates
in a layer, what it sends of it, what it makes of its own partial product and the three it receives, and the rows it
returns. Everything is for arbitrary float values; `m` is the memory at launch.
-/
module

public import proofs.«01_k».proof.Proof.Gen.KernelIdeal.Frame
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## Who sends to whom -/

/-- The device whose block lands in slot `s` of device `c`. -/
def srcD (s : Fin 3) (c : Dev nD) : Dev nD := ⟨(c.val + s.val + 1) % 4, Nat.mod_lt _ (by decide)⟩
/-- The device in whose slot `s` the block of device `c` lands. -/
def dstD (s : Fin 3) (c : Dev nD) : Dev nD := ⟨(c.val + 3 - s.val) % 4, Nat.mod_lt _ (by decide)⟩

theorem src_dst (s : Fin 3) (c : Dev nD) : srcD s (dstD s c) = c := by revert s c; decide
theorem dst_src (s : Fin 3) (c : Dev nD) : dstD s (srcD s c) = c := by revert s c; decide

/-- One slot's permutation of the devices. -/
def turn (s : Fin 3) : Dev nD ≃ Dev nD := ⟨dstD s, srcD s, src_dst s, dst_src s⟩

/-! ## The memrefs -/

abbrev xM : Memref sig .tc .vmem S64x2048 .f32 := Memref.whole cc0_stg0_0
abbrev oM : Memref sig .tc .vmem S16x2048 .f32 := Memref.whole cc0_stg1_0
abbrev xbM : Memref sig .tc .vmem S64x2048 .f32 := Memref.whole cc0_scratch0
abbrev accM : Memref sig .tc .vmem S64x2048 .f32 := Memref.whole cc0_scratch1
abbrev sM : Memref sig .tc .vmem S64x2048 .bf16 := Memref.whole cc0_scratch2
abbrev winM : Memref sig .tc .vmem S6x2048x512 .f32 := Memref.whole cc0_scratch3
abbrev woutM : Memref sig .tc .vmem S6x512x2048 .f32 := Memref.whole cc0_scratch4
abbrev arM : Memref sig .tc .vmem S2x3x64x2048 .bf16 := Memref.whole cc0_scratch5
abbrev rsM : Memref sig .tc .vmem S3x16x2048 .bf16 := Memref.whole cc0_scratch6

theorem inb_win (s : Fin 6) : ∀ a, (![s.val, 0, 0] : Fin 3 → ℕ) a + S1x2048x512.size a ≤ S6x2048x512.size a := by revert s; decide
theorem inb_wout (s : Fin 6) : ∀ a, (![s.val, 0, 0] : Fin 3 → ℕ) a + S1x512x2048.size a ≤ S6x512x2048.size a := by revert s; decide
theorem inb_ar (l : Fin 2) (s : Fin 3) : ∀ a, (![l.val, s.val, 0, 0] : Fin 4 → ℕ) a + S1x1x64x2048.size a ≤ S2x3x64x2048.size a := by
  revert l s; decide
theorem inb_rs (s : Fin 3) : ∀ a, (![s.val, 0, 0] : Fin 3 → ℕ) a + S1x16x2048.size a ≤ S3x16x2048.size a := by revert s; decide
theorem inb_row (t : Dev nD) : ∀ a, (![16 * t.val, 0] : Fin 2 → ℕ) a + S16x2048.size a ≤ S64x2048.size a := by revert t; decide
theorem inb_wi (k : Fin 8) : ∀ a, (![0, 512 * k.val] : Fin 2 → ℕ) a + S2048x512.size a ≤ S2048x4096.size a := by revert k; decide
theorem inb_wo (k : Fin 8) : ∀ a, (![512 * k.val, 0] : Fin 2 → ℕ) a + S512x2048.size a ≤ S4096x2048.size a := by revert k; decide

/-- The six slots the weights' tiles land in. -/
abbrev winSlot (s : Fin 6) : Memref sig .tc .vmem S2048x512 .f32 :=
  (winM.slice (Rect.unit (s := S6x2048x512) ![s.val, 0, 0] S1x2048x512.size (inb_win s)) (fun _ => rfl)).squeeze S2048x512 squeezes_S1x2048x512_S2048x512
abbrev woutSlot (s : Fin 6) : Memref sig .tc .vmem S512x2048 .f32 :=
  (woutM.slice (Rect.unit (s := S6x512x2048) ![s.val, 0, 0] S1x512x2048.size (inb_wout s)) (fun _ => rfl)).squeeze S512x2048 squeezes_S1x512x2048_S512x2048
/-- The landing slots of the first two layers' exchanges, and of the last layer's. -/
abbrev arSlot (l : Fin 2) (s : Fin 3) : Memref sig .tc .vmem S64x2048 .bf16 :=
  (arM.slice (Rect.unit (s := S2x3x64x2048) ![l.val, s.val, 0, 0] S1x1x64x2048.size (inb_ar l s)) (fun _ => rfl)).squeeze S64x2048 squeezes_S1x1x64x2048_S64x2048
abbrev rsSlot (s : Fin 3) : Memref sig .tc .vmem S16x2048 .bf16 :=
  (rsM.slice (Rect.unit (s := S3x16x2048) ![s.val, 0, 0] S1x16x2048.size (inb_rs s)) (fun _ => rfl)).squeeze S16x2048 squeezes_S1x16x2048_S16x2048
/-- The sixteen rows of the send buffer that belong to device `t`. -/
abbrev sRow (t : Dev nD) : Memref sig .tc .vmem S16x2048 .bf16 :=
  sM.slice (Rect.unit (s := S64x2048) ![16 * t.val, 0] S16x2048.size (inb_row t)) (fun _ => rfl)

/-- The weights of each layer. -/
def wiM : ℕ → Memref sig .tc .hbm S2048x4096 .f32
  | 0 => Memref.whole main_arg1
  | 1 => Memref.whole main_arg2
  | _ => Memref.whole main_arg3
def woM : ℕ → Memref sig .tc .hbm S4096x2048 .f32
  | 0 => Memref.whole main_arg4
  | 1 => Memref.whole main_arg5
  | _ => Memref.whole main_arg6

abbrev wiTile (l : ℕ) (k : Fin 8) : Memref sig .tc .hbm S2048x512 .f32 :=
  (wiM l).slice (Rect.unit (s := S2048x4096) ![0, 512 * k.val] S2048x512.size (inb_wi k)) (fun _ => rfl)
abbrev woTile (l : ℕ) (k : Fin 8) : Memref sig .tc .hbm S512x2048 .f32 :=
  (woM l).slice (Rect.unit (s := S4096x2048) ![512 * k.val, 0] S512x2048.size (inb_wo k)) (fun _ => rfl)

/-! ## The values -/

/-- One tile's contribution: `max(x · wi, 0) · wo`. -/
def stepV (x : FVec F S64x2048 .f32) (wi : FVec F S2048x512 .f32) (wo : FVec F S512x2048 .f32) : FVec F S64x2048 .f32 :=
  matmul dot_S64x512_S512x2048_S64x2048_1_0_0_1_n_n none
    (maximumf (matmul dot_S64x2048_S2048x512_S64x512_1_0_0_1_n_n none x wi (constant S64x512 .f32 0x00000000#32))
      (broadcast S64x512 (Scalar.ofBits .f32 0x00000000#32)))
    wo (constant S64x2048 .f32 0x00000000#32)

/-- The first `n + 1` tiles' contributions, added in order. -/
def accN (x : FVec F S64x2048 .f32) (wi : Fin 8 → FVec F S2048x512 .f32) (wo : Fin 8 → FVec F S512x2048 .f32) : ℕ → FVec F S64x2048 .f32
  | 0 => stepV x (wi 0) (wo 0)
  | n + 1 => addf (accN x wi wo n) (stepV x (wi (Fin.ofNat 8 (n + 1))) (wo (Fin.ofNat 8 (n + 1))))

/-- A partial product and the three received ones, widened and added in the order of the slots. -/
def mergeV (a : FVec F S64x2048 .f32) (b0 b1 b2 : FVec F S64x2048 .bf16) : FVec F S64x2048 .f32 :=
  addf (addf (addf a (extf .f32 b0 bitsLt_bf16_f32)) (extf .f32 b1 bitsLt_bf16_f32)) (extf .f32 b2 bitsLt_bf16_f32)
def mergeRow (a : FVec F S16x2048 .f32) (b0 b1 b2 : FVec F S16x2048 .bf16) : FVec F S16x2048 .f32 :=
  addf (addf (addf a (extf .f32 b0 bitsLt_bf16_f32)) (extf .f32 b1 bitsLt_bf16_f32)) (extf .f32 b2 bitsLt_bf16_f32)

variable (m : (ℓ : Loc nD τ sig) → Buf (Elt F) ℓ)

def xstg (c : Dev nD) : (cc0_stg0_0 : Ref sig .tc).ty.Contents (Elt F) :=
  (win0_0.blk (0 : Fin 1)).view.read (Elt F) (m ((c : Thread nD τ).loc main_arg0))

def wiBlk (c : Dev nD) (l : ℕ) (k : Fin 8) : FVec F S2048x512 .f32 := (wiTile l k).view.read (Elt F) (m ((wiM l).view.loc (c : Thread nD τ)))
def woBlk (c : Dev nD) (l : ℕ) (k : Fin 8) : FVec F S512x2048 .f32 := (woTile l k).view.read (Elt F) (m ((woM l).view.loc (c : Thread nD τ)))

/-- What device `c` accumulates in layer `l` from the layer's input `x`; what it sends of it. -/
def partV (c : Dev nD) (l : ℕ) (x : FVec F S64x2048 .f32) : FVec F S64x2048 .f32 := accN x (wiBlk m c l) (woBlk m c l) 7

/-- The input of layer `l` as device `c` holds it. -/
def inV : ℕ → Dev nD → FVec F S64x2048 .f32
  | 0 => fun c => xstg m c
  | l + 1 => fun c => mergeV (partV m c l (inV l c))
      (truncf .bf16 (partV m (srcD 0 c) l (inV l (srcD 0 c))) bitsLt_bf16_f32)
      (truncf .bf16 (partV m (srcD 1 c) l (inV l (srcD 1 c))) bitsLt_bf16_f32)
      (truncf .bf16 (partV m (srcD 2 c) l (inV l (srcD 2 c))) bitsLt_bf16_f32)

def accV (l : ℕ) (c : Dev nD) : FVec F S64x2048 .f32 := partV m c l (inV m l c)
def sendV (l : ℕ) (c : Dev nD) : FVec F S64x2048 .bf16 := truncf .bf16 (accV m l c) bitsLt_bf16_f32

theorem inV_succ (l : ℕ) (c : Dev nD) :
    inV m (l + 1) c = mergeV (accV m l c) (sendV m l (srcD 0 c)) (sendV m l (srcD 1 c)) (sendV m l (srcD 2 c)) := rfl

/-- The rows of device `t` in a send buffer's contents, and in the accumulator's. -/
def rowsB (t : Dev nD) (v : FVec F S64x2048 .bf16) : FVec F S16x2048 .bf16 := (sRow t).view.read (Elt F) v
def rowsF (t : Dev nD) (v : FVec F S64x2048 .f32) : FVec F S16x2048 .f32 :=
  accM.view.readAt (Elt F) (Rect.unit (s := S64x2048) ![16 * t.val, 0] S16x2048.size (inb_row t)).toLoadRect v

/-- The rows device `c` returns. -/
def outV (c : Dev nD) : FVec F S16x2048 .f32 :=
  mergeRow (rowsF c (accV m 2 c)) (rowsB c (sendV m 2 (srcD 0 c))) (rowsB c (sendV m 2 (srcD 1 c))) (rowsB c (sendV m 2 (srcD 2 c)))

end Cert.KernelIdeal.Hand

end
-- ==== Proof.Proto.lean ====
/-
# The exchange's protocol

Four devices exchange their partial products three times. The semaphores, who waits on each and what a landing hands over:

* the barrier semaphore: every device signals each of the other three once and waits for three units. The signal
  device `d` gives device `c` (with `d = dstD s c`) hands `c` the landing slots number `s` of `d`, one for each layer;
* the receive semaphore of layer `l` and slot `s`: credited once, by the transfer of device `srcD s c`; the landing
  hands `c` its own slot, holding what that device sent in that layer;
* the send semaphore of layer `l` and transfer `j`: credited once, by the device's own transfer `j`; it hands back the
  share of the send buffer the transfer read.

A device owes its signals and its nine landings. A barrier semaphore is at level 1, the receive semaphores of layer `l`
at level `2 + l`, everything else at level 0: each wait is for something below all the device still owes.
-/
module

public import proofs.«01_k».proof.Proof.Spec
public import Idealize.ShloMosaic.Lib.Pipeline.Launch
public import Idealize.ShloMosaic.Lib.Pipeline.Kit
public import Idealize.ShloMosaic.Lib.Tactic
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-! ## The resource algebra: the pipeline's rounds, the exchange's (duties numbered by slot), the local transfers' counters -/

abbrev UB : Type := URounds (GSem nD τ sig) (Fin 3)
abbrev UU : Type := UR sig nD τ × (UB × Counters)

local notation "𝕄" => MT nD τ sig Bool (Elt F) ℕ UU ℕ

abbrev 𝒱₀ : Variants := Variants.none

abbrev EP : Emb (UR sig nD τ) (MT nD τ sig Bool (Elt F) ℕ UU ℕ) := embL
def ER : Emb UB (MT nD τ sig Bool (Elt F) ℕ UU ℕ) :=
  ((Emb.inl : Emb UB (UB × Counters)).trans (Emb.inr : Emb (UB × Counters) UU)).trans
    (uEmb (nD := nD) (sig := sig) (Ix := Bool) (Val := Elt F) (Name := ℕ) (U := UU) (Lvl := ℕ)).toEmb
instance ER_lands : (ER (F := F)).LandsIn (upEmb : UEmb _ 𝕄) := by unfold ER; infer_instance

variable (m : (ℓ : Loc nD τ sig) → Buf (Elt F) ℓ) (ρ : Dev nD → PrngReg)

/-! ## The cells -/

/-- The runtime's barrier semaphore. -/
abbrev barS : Sem sig := (SemArray.scalar (sig.barrier 0 rfl) : Sems sig S_).sem

/-- The exchange's transfer semaphores: the send (`false`) and receive (`true`) ones of layer `l`, number `j`. -/
def xS (x : Bool × Fin 3 × Fin 3) : DmaSem sig := ⟨(if x.1 then 23 else 14) + 3 * x.2.1.val + x.2.2.val, by revert x; decide⟩
abbrev sendS (l j : Fin 3) : DmaSem sig := xS (false, l, j)
abbrev recvS (l s : Fin 3) : DmaSem sig := xS (true, l, s)

/-- The semaphore of a tile's copy. -/
def tileS (x : Bool × Fin 6) : DmaSem sig := ⟨(if x.1 then 8 else 2) + x.2.val, by revert x; decide⟩

/-- Which transfer a semaphore belongs to, if any. -/
def dec (q : DmaSem sig) : Option (Bool × Fin 3 × Fin 3) :=
  if q.val < 14 then none
  else if q.val < 23 then some (false, Fin.ofNat 3 ((q.val - 14) / 3), Fin.ofNat 3 ((q.val - 14) % 3))
  else some (true, Fin.ofNat 3 ((q.val - 23) / 3), Fin.ofNat 3 ((q.val - 23) % 3))

theorem dec_xS : ∀ x : Bool × Fin 3 × Fin 3, dec (xS x) = some x := by decide
theorem dec_low (q : DmaSem sig) (h : q.val < 14) : dec q = none := if_pos h

abbrev barCell (c : Dev nD) : GSem nD τ sig := ((c : Thread nD τ), .reg barS)
abbrev sendCell (c : Dev nD) (l j : Fin 3) : GSem nD τ sig := ((c : Thread nD τ), .dma (sendS l j))
abbrev recvCell (c : Dev nD) (l s : Fin 3) : GSem nD τ sig := ((c : Thread nD τ), .dma (recvS l s))

/-- The kernel's own semaphores: the tiles' and the exchange's; the exchange's with the barrier. -/
abbrev OK : Type := (Bool × Fin 6) ⊕ (Bool × Fin 3 × Fin 3)
abbrev osem : OK → SemLoc sig
  | .inl x => .dma (tileS x)
  | .inr x => .dma (xS x)
abbrev CK : Type := Unit ⊕ (Bool × Fin 3 × Fin 3)
abbrev csem : CK → SemLoc sig
  | .inl _ => .reg barS
  | .inr x => .dma (xS x)
abbrev kcell (ck : Dev nD × CK) : GSem nD τ sig := ((ck.1 : Thread nD τ), csem ck.2)

/-- A transfer's credit: a whole block in the first two layers, sixteen rows in the last. -/
def amtL (l : Fin 3) : ℕ := if l = 2 then 2048 else 8192
theorem amtL_pos (l : Fin 3) : 0 < amtL l := by revert l; decide
theorem amt_ar (l : Fin 2) (s : Fin 3) (sm : DmaSem sig) : (arSlot l s).view.amount (.dma sm) = 8192 := rfl
theorem amt_rs (s : Fin 3) (sm : DmaSem sig) : (rsSlot s).view.amount (.dma sm) = 2048 := rfl

/-! ## What a landing hands over -/

/-- The three shares the send buffer is read at. -/
def shareOf : Fin 3 → PosShare TreeShare
  | 0 => fullShare.left
  | 1 => fullShare.right.left
  | 2 => fullShare.right.right

def arPts (c : Dev nD) (l : Fin 2) (s : Fin 3) (f : Buf (Elt F) ((arSlot l s).view.loc (c : Thread nD τ))) : sProp 𝕄 :=
  (arSlot l s).view.loc (c : Thread nD τ) ↦[(arSlot l s).view.set]{fullShare} f
def rsPts (c : Dev nD) (s : Fin 3) (f : Buf (Elt F) ((rsSlot s).view.loc (c : Thread nD τ))) : sProp 𝕄 :=
  (rsSlot s).view.loc (c : Thread nD τ) ↦[(rsSlot s).view.set]{fullShare} f

/-- The share `q` of the whole send buffer, and of the rows of device `t` in it, holding `v`. -/
def sPts (c : Dev nD) (q : PosShare TreeShare) (v : FVec F S64x2048 .bf16) : sProp 𝕄 :=
  sM.view.loc (c : Thread nD τ) ↦[sM.view.set]{q} (v : Buf (Elt F) (sM.view.loc (c : Thread nD τ)))
def sRowPts (c t : Dev nD) (q : PosShare TreeShare) (v : FVec F S64x2048 .bf16) : sProp 𝕄 :=
  (sRow t).view.loc (c : Thread nD τ) ↦[(sRow t).view.set]{q} (v : Buf (Elt F) ((sRow t).view.loc (c : Thread nD τ)))

/-- Slot `s` of every layer on device `d`, whatever it holds. -/
def slotsOf (d : Dev nD) (s : Fin 3) : sProp 𝕄 :=
  iprop((∃ f, arPts d 0 s f) ∗ (∃ f, arPts d 1 s f) ∗ (∃ f, rsPts d s f))

def barPay (c : Dev nD) (s : Fin 3) : sProp 𝕄 := slotsOf (dstD s c) s

def recvPay (c : Dev nD) : Fin 3 → Fin 3 → sProp 𝕄
  | 0, s => arPts c 0 s ((arSlot 0 s).view.rep (sendV m 0 (srcD s c)))
  | 1, s => arPts c 1 s ((arSlot 1 s).view.rep (sendV m 1 (srcD s c)))
  | 2, s => rsPts c s ((rsSlot s).view.rep (rowsB c (sendV m 2 (srcD s c))))

/-- Transfer `j` lands in slot `2 - j`. -/
def slotJ (j : Fin 3) : Fin 3 := ⟨2 - j.val, by omega⟩

def sendPay (c : Dev nD) : Fin 3 → Fin 3 → sProp 𝕄
  | 0, j => sPts c (shareOf j) (sendV m 0 c)
  | 1, j => sPts c (shareOf j) (sendV m 1 c)
  | 2, j => sRowPts c (dstD (slotJ j) c) (shareOf j) (sendV m 2 c)

instance arPts_storable (c : Dev nD) (l s f) : BI.Storable (upEmb : UEmb _ 𝕄) (arPts (F := F) c l s f) := by unfold arPts; infer_instance
instance rsPts_storable (c : Dev nD) (s f) : BI.Storable (upEmb : UEmb _ 𝕄) (rsPts (F := F) c s f) := by unfold rsPts; infer_instance
instance sPts_storable (c : Dev nD) (q v) : BI.Storable (upEmb : UEmb _ 𝕄) (sPts (F := F) c q v) := by unfold sPts; infer_instance
instance sRowPts_storable (c t : Dev nD) (q v) : BI.Storable (upEmb : UEmb _ 𝕄) (sRowPts (F := F) c t q v) := by unfold sRowPts; infer_instance
instance barPay_storable (c : Dev nD) (s) : BI.Storable (upEmb : UEmb _ 𝕄) (barPay (F := F) c s) := by unfold barPay slotsOf; infer_instance
instance recvPay_storable (c : Dev nD) (l s : Fin 3) : BI.Storable (upEmb : UEmb _ 𝕄) (recvPay m c l s) := by
  unfold recvPay; split <;> infer_instance
instance sendPay_storable (c : Dev nD) (l j : Fin 3) : BI.Storable (upEmb : UEmb _ 𝕄) (sendPay m c l j) := by
  unfold sendPay; split <;> infer_instance

/-! ## The schedule: one round, round 0 -/

def dutySet : SemLoc sig → Finset (Fin 3)
  | .reg s => if s = barS then Finset.univ else ∅
  | .dma q => match dec q with
    | some _ => {0}
    | none => ∅
def amtOf : SemLoc sig → ℕ
  | .reg _ => 1
  | .dma q => match dec q with
    | some (_, l, _) => amtL l
    | none => 1
def payOf (c : Dev nD) (d : Fin 3) : SemLoc sig → sProp 𝕄
  | .reg _ => barPay c d
  | .dma q => match dec q with
    | some (true, l, s) => recvPay m c l s
    | some (false, l, j) => sendPay m c l j
    | none => iprop(emp)

theorem amtOf_pos (sm : SemLoc sig) : 0 < amtOf sm := by
  unfold amtOf; split
  · exact Nat.one_pos
  · split
    · exact amtL_pos _
    · exact Nat.one_pos

def Rd : Rounds.Schedule (GSem nD τ sig) (Fin 3) 𝕄 where
  duties g r := if r = 0 ∧ g.1.2 = .tc then dutySet g.2 else ∅
  unitless _ := False
  amount g _ _ := amtOf g.2
  payload g _ d := payOf m g.1.1 d g.2
  amount_pos g _ _ _ := amtOf_pos g.2

instance Rd_payload_storable (g : GSem nD τ sig) (r : ℕ) (d : Fin 3) :
    BI.Storable (upEmb : UEmb _ 𝕄) ((Rd (F := F) m).payload g r d) := by
  show BI.Storable upEmb (payOf m g.1.1 d g.2)
  unfold payOf
  split
  · infer_instance
  · split <;> infer_instance

section Sched
variable (c : Dev nD) (x : Bool × Fin 3 × Fin 3) (l s : Fin 3)

theorem duties_bar : (Rd (F := F) m).duties (barCell c) 0 = Finset.univ := by
  dsimp only [Rd, dutySet]; rw [if_pos ⟨rfl, rfl⟩, if_pos rfl]
theorem duties_x : (Rd (F := F) m).duties (kcell (c, .inr x)) 0 = {0} := by
  dsimp only [Rd, dutySet, kcell, csem]; rw [if_pos ⟨rfl, rfl⟩, dec_xS]
theorem duties_later (g : GSem nD τ sig) : ∀ r, 1 ≤ r → (Rd (F := F) m).duties g r = ∅ :=
  fun r hr => by dsimp only [Rd]; rw [if_neg fun h => by omega]

theorem amount_bar (d : Fin 3) : (Rd (F := F) m).amount (barCell c) 0 d = 1 := rfl
theorem amount_x (d : Fin 3) : (Rd (F := F) m).amount (kcell (c, .inr x)) 0 d = amtL x.2.1 := by
  dsimp only [Rd, amtOf, kcell, csem]; rw [dec_xS]

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_x : (Rd (F := F) m).expect (kcell (c, .inr x)) 0 = amtL x.2.1 := by
  unfold Schedule.expect Schedule.amountOf; rw [duties_x, Finset.sum_singleton, amount_x]

theorem payload_bar (d : Fin 3) : (Rd (F := F) m).payload (barCell c) 0 d = barPay c d := rfl
theorem payload_recv (d : Fin 3) : (Rd (F := F) m).payload (recvCell c l s) 0 d = recvPay m c l s := by
  dsimp only [Rd, payOf]; rw [dec_xS]
theorem payload_send (d : Fin 3) : (Rd (F := F) m).payload (sendCell c l s) 0 d = sendPay m c l s := by
  dsimp only [Rd, payOf]; rw [dec_xS]

theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar : bigSep ((Rd (F := F) m).duties (barCell c) 0 \ ∅) (fun d => (Rd (F := F) m).payload (barCell c) 0 d)
    = iprop(slotsOf (dstD 0 c) 0 ∗ slotsOf (dstD 1 c) 1 ∗ slotsOf (dstD 2 c) 2) := by
  rw [Finset.sdiff_empty, duties_bar, bigSep_fin3]; rfl
theorem rest_recv : bigSep ((Rd (F := F) m).duties (recvCell c l s) 0 \ ∅) (fun d => (Rd (F := F) m).payload (recvCell c l s) 0 d) = recvPay m c l s := by
  rw [Finset.sdiff_empty, duties_x m c (true, l, s), bigSep_singleton, payload_recv]
theorem rest_send : bigSep ((Rd (F := F) m).duties (sendCell c l s) 0 \ ∅) (fun d => (Rd (F := F) m).payload (sendCell c l s) 0 d) = sendPay m c l s := by
  rw [Finset.sdiff_empty, duties_x m c (false, l, s), bigSep_singleton, payload_send]

end Sched

/-! ## What each device owes at launch; the levels -/

/-- The device's twelve payments, the last to be made first: the landings of the last layer, of the middle one, of the
    first, the three signals. -/
def pcell (c : Dev nD) : ℕ → GSem nD τ sig
  | 0 => recvCell (dstD 0 c) 2 0 | 1 => recvCell (dstD 1 c) 2 1 | 2 => recvCell (dstD 2 c) 2 2
  | 3 => recvCell (dstD 0 c) 1 0 | 4 => recvCell (dstD 1 c) 1 1 | 5 => recvCell (dstD 2 c) 1 2
  | 6 => recvCell (dstD 0 c) 0 0 | 7 => recvCell (dstD 1 c) 0 1 | 8 => recvCell (dstD 2 c) 0 2
  | 9 => barCell (srcD 2 c) | 10 => barCell (srcD 1 c) | _ => barCell (srcD 0 c)
def pamt : ℕ → ℕ
  | 0 => 2048 | 1 => 2048 | 2 => 2048 | 3 => 8192 | 4 => 8192 | 5 => 8192 | 6 => 8192 | 7 => 8192 | 8 => 8192 | _ => 1

/-- What device `c` owes while `n` payments are still to be made. -/
def owe (c : Dev nD) : ℕ → CellTallies nD τ sig Bool
  | 0 => 0
  | n + 1 => owe c n + tallyAt (pcell c n) true (pamt n)
abbrev O₀ (c : Dev nD) : CellTallies nD τ sig Bool := owe c 12

/-- The units of `owe` at a cell. -/
def oweN (c : Dev nD) (g : GSem nD τ sig) : ℕ → ℕ
  | 0 => 0
  | n + 1 => oweN c g n + if g = pcell c n then pamt n else 0

theorem owe_apply (c : Dev nD) (g : GSem nD τ sig) (u : Bool) (n : ℕ) : owe c n g u = if u = true then oweN c g n else 0 := by
  induction n with
  | zero => unfold owe oweN; split <;> rfl
  | succ n ih =>
    unfold owe oweN
    rw [Pi.add_apply, Finsupp.add_apply, ih, tallyAt_apply]
    by_cases hu : u = true
    · subst hu; simp only [and_true, if_true]
    · rw [if_neg hu, if_neg (fun h => hu h.2), if_neg hu]

theorem owe_pos {c : Dev nD} {g : GSem nD τ sig} {u : Bool} {n : ℕ} (h : 0 < owe c n g u) : u = true ∧ ∃ k < n, g = pcell c k := by
  rw [owe_apply] at h
  by_cases hu : u = true
  · refine ⟨hu, ?_⟩
    rw [if_pos hu] at h
    induction n with
    | zero => exact absurd h (Nat.lt_irrefl 0)
    | succ n ih =>
      unfold oweN at h
      by_cases hg : g = pcell c n
      · exact ⟨n, Nat.lt_succ_self n, hg⟩
      · rw [if_neg hg, Nat.add_zero] at h
        obtain ⟨k, hk, he⟩ := ih h
        exact ⟨k, Nat.lt_succ_of_lt hk, he⟩
  · rw [if_neg hu] at h; exact absurd h (Nat.lt_irrefl 0)

def L (g : GSem nD τ sig) : Finset Bool := if g.1.2 = .tc then Finset.univ else ∅
def lvS : SemLoc sig → ℕ
  | .reg _ => 1
  | .dma q => match dec q with
    | some (true, l, _) => 2 + l.val
    | _ => 0
def lv (g : GSem nD τ sig) (u : Bool) : ℕ := if u = true then lvS g.2 else 0

theorem L_of_ne (g : GSem nD τ sig) (h : g.1.2 ≠ .tc) : L g = ∅ := if_neg h
theorem L_tc (c : Dev nD) (sm : SemLoc sig) : L ((c : Thread nD τ), sm) = Finset.univ := if_pos rfl
theorem pcell_tc (c : Dev nD) (k : ℕ) : (pcell c k).1.2 = .tc := by unfold pcell; split <;> rfl

/-- A wait for a cell at or below the level `b`, while everything still owed is above it. -/
theorem mayWait_of (c : Dev nD) (sm : SemLoc sig) (u : Bool) (n b : ℕ) (hlow : lv ((c : Thread nD τ), sm) u ≤ b)
    (hhigh : ∀ k < n, b < lvS (pcell c k).2) : (levAts L lv : sProp 𝕄) ⊢ MayWait (c : Thread nD τ) sm u (owe c n) :=
  MayOwe.of_cut (L := L) (lev := lv) b (fun p hp => by rw [Finset.mem_singleton.mp hp, L_tc]; exact Finset.mem_univ _)
    (fun g v hg => by
      obtain ⟨hv, k, hk, rfl⟩ := owe_pos hg
      unfold L; rw [if_pos (pcell_tc c k)]; exact Finset.mem_univ _)
    (fun p hp => by rw [Finset.mem_singleton.mp hp]; exact hlow)
    (fun g v hg => by
      obtain ⟨rfl, k, hk, rfl⟩ := owe_pos hg
      exact hhigh k hk)

theorem lvl_all : ∀ (c : Dev nD) (k : ℕ), k < 12 → 0 < lvS (pcell c k).2 := by decide
theorem lvl_bar : ∀ (c : Dev nD) (k : ℕ), k < 9 → 1 < lvS (pcell c k).2 := by decide
theorem lvl_0 : ∀ (c : Dev nD) (k : ℕ), k < 6 → 2 < lvS (pcell c k).2 := by decide
theorem lvl_1 : ∀ (c : Dev nD) (k : ℕ), k < 3 → 3 < lvS (pcell c k).2 := by decide

/-- Local waits, under the other index, wait for cells at level 0. -/
theorem mayWaits_local (c : Dev nD) (n : ℕ) (hn : n ≤ 12) : (levAts L lv : sProp 𝕄) ⊢ Transfers.MayWaits (c : Thread nD τ) false (owe c n) := by
  unfold Transfers.MayWaits
  refine Laws.forall_intro fun sm => ?_
  exact mayWait_of c sm false n 0 (le_of_eq (if_neg (by decide))) fun k hk => lvl_all c k (lt_of_lt_of_le hk hn)

end Cert.KernelIdeal.Hand

end
-- ==== Proof.Steps.lean ====
/-
# One rule for each effect of the exchange

The signals, the barrier wait, the transfers and their waits, each as one entailment at a symbolic device, layer and
slot. The program's own spelling of the device, the semaphore and the buffers enters through equations.
-/
module

public import proofs.«01_k».proof.Proof.Proto

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ) (K : Dev nD × CK → ℕ)

/-- Every cell's invariant, under the name `K` gives it, and that its round 0 is open. -/
def records : sProp 𝕄 :=
  bigSep Finset.univ fun ck : Dev nD × CK => iprop(cellInv ER (Rd m) (K ck) (kcell ck) ∗ reached ER (kcell ck) 0)

instance records_persistent : BI.Persistent (records m K) := by unfold records; infer_instance

theorem inv_at (ck : Dev nD × CK) : records m K ⊢ cellInv ER (Rd m) (K ck) (kcell ck) :=
  BIBase.Entails.trans (bigSep_elim (Finset.mem_univ ck)) sep_elim_left
theorem reached_at (ck : Dev nD × CK) : records m K ⊢ reached ER (kcell ck) 0 :=
  BIBase.Entails.trans (bigSep_elim (Finset.mem_univ ck)) sep_elim_right

/-- What a device holds of the exchange's ghost state: its position at its barrier, its three signals' tokens. -/
def ghostBar (c : Dev nD) : sProp 𝕄 :=
  iprop(atPos ER (barCell c) 0 ∅ 0 ∗ cred (tallyAt (barCell c) true 3))
/-- Its part in the transfers of layer `l` and slot `s`: the tokens of its own transfer's two ends; its positions at the
    send semaphore of that transfer and at the receive semaphore of the slot, with the credit of the landing there. -/
def ghostOut (c : Dev nD) (l s : Fin 3) : sProp 𝕄 :=
  iprop(dutyTok ER (sendCell c l (slotJ s)) 0 0 ∗ dutyTok ER (recvCell (dstD s c) l s) 0 0)
def ghostIn (c : Dev nD) (l s : Fin 3) : sProp 𝕄 :=
  iprop(atPos ER (recvCell c l s) 0 ∅ 0 ∗ cred (tallyAt (recvCell c l s) true (amtL l)))

theorem owe_succ {c : Dev nD} {i : ℕ} {g : GSem nD τ sig} {a : ℕ} (hc : pcell c i = g) (ha : pamt i = a) :
    owe c (i + 1) = owe c i + tallyAt g true a := by subst hc ha; rfl
theorem lvS_recv (l s : Fin 3) : lvS (.dma (recvS l s)) = 2 + l.val := by dsimp only [lvS]; rw [dec_xS]
theorem lvS_send (l s : Fin 3) : lvS (.dma (sendS l s)) = 0 := by dsimp only [lvS]; rw [dec_xS]
theorem amtL_ar (l : Fin 2) : amtL l.castSucc = 8192 := by revert l; decide
theorem sendPay_ar (c : Dev nD) (l : Fin 2) (j : Fin 3) : sendPay m c l.castSucc j = sPts c (shareOf j) (sendV m l c) := by
  match l with
  | 0 => rfl
  | 1 => rfl
theorem recvPay_ar (c : Dev nD) (l : Fin 2) (s : Fin 3) : recvPay m c l.castSucc s = arPts c l s ((arSlot l s).view.rep (sendV m l (srcD s c))) := by
  match l with
  | 0 => rfl
  | 1 => rfl

section Rules
variable (c : Dev nD) {α : Type} {k : PUnit → Prog (TpuEff nD τ sig (Elt F) Λ₀ .tc) α} {W : Waits sig Bool}

/-- The signal to the device whose slot `s` side this is: the device's own slots go with it. -/
theorem step_signal {Q : α → sProp 𝕄} (n : Dev nD) (s : Fin 3) (hn : n = srcD s c) (i : ℕ) (hc : pcell c i = barCell (srcD s c)) (ha : pamt i = 1) :
    records m K ⊢ slotsOf c s -∗ dutyTok ER (barCell (srcD s c)) 0 s -∗ owes (c : Thread nD τ) (owe c (i + 1)) W
      -∗ (owes (c : Thread nD τ) (owe c i) W -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (Dev.tc n : Thread nD τ) barS ((1 : ℕ) : Int)) k) Q := by
  subst hn
  iintro #HR Hsl Ht HO Hk
  iapply (Rounds.wp_signal 𝒱₀ ER (Rd m) (c : Thread nD τ) none (dst := (srcD s c : Thread nD τ)) (κ := K (srcD s c, .inl ())) (d := s)
      (by rw [duties_bar]; exact Finset.mem_univ _) (amount_bar m (srcD s c) s) true (O₀ := owe c (i + 1)) (owe c i)
      (owe_succ hc ha)) $$ [HO Hsl Ht]
  · isplitr; · iapply (inv_at m K (srcD s c, .inl ())); iexact HR
    isplitl [HO]; · iexact HO
    isplitl [Ht]; · iexact Ht
    isplitl [Hsl]
    · rw [payload_bar]; unfold barPay; rw [dst_src]; iexact Hsl
    · iapply (reached_at m K (srcD s c, .inl ())); iexact HR
  iexact Hk

/-- The wait for the three signals, owing the nine landings: the three devices' slots come with it. -/
theorem step_barWait {Q : α → sProp 𝕄} :
    records m K ⊢ (levAts L lv : sProp 𝕄) -∗ ghostBar c -∗ owes (c : Thread nD τ) (owe c 9) W
      -∗ ((owes (c : Thread nD τ) (owe c 9) (insert (SemLoc.reg barS, true) W) ∗ semVal (barCell c) 0
            ∗ slotsOf (dstD 0 c) 0 ∗ slotsOf (dstD 1 c) 1 ∗ slotsOf (dstD 2 c) 2)
          -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS ((3 : ℕ) : Int)) k) Q := by
  unfold ghostBar
  iintro #HR #HL ⟨Hat, Hc⟩ HO Hk
  iapply (Rounds.wp_wait_rest_token 𝒱₀ ER (Rd m) (c : Thread nD τ) none (κ := K (c, .inl ()))
      (wpE_semWait_eq 𝒱₀ (c : Thread nD τ) none Set.univ) (Set.mem_univ _) true (O := owe c 9) (W := W) (R := 0) (m := 0) (T := ∅)
      (by rw [expect_bar])) $$ [Hc HO Hat]
  · isplitr; · iapply (inv_at m K (c, .inl ())); iexact HR
    isplitl [Hc]; · iexact Hc
    isplitl [HO]; · iexact HO
    isplitr
    · iapply (mayWait_of (F := F) c (.reg barS) true 9 1 (le_of_eq rfl) (fun k hk => lvl_bar c k hk)); iexact HL
    iexact Hat
  iintro ⟨HO, Hat, -, Hpay⟩
  ihave Hp := (Entails.of_eq (rest_bar m c)) $$ Hpay
  imod (Rounds.cell_close ER (Rd m) (Set.mem_univ (K (c, .inl ()))) (fun h => h) (R := 0 + 1) (duties_later m (barCell c))) $$ [Hat] with Hz
  · isplitr; · iapply (inv_at m K (c, .inl ())); iexact HR
    iexact Hat
  iapply Hk
  isplitl [HO]; · iexact HO
  isplitl [Hz]; · iexact Hz
  iexact Hp

/-- A wait for one of the exchange's transfers, `n` payments still owed, all at levels above. -/
theorem step_wait {Q : α → sProp 𝕄} (x : Bool × Fin 3 × Fin 3) (n : ℕ) (hl : ∀ i < n, lvS (.dma (xS x)) < lvS (pcell c i).2)
    {w : TpuEff nD τ sig (Elt F) Λ₀ .tc PUnit}
    (hw : ∀ Φ : PUnit → sProp 𝕄, wpE (defs₀ (F := F)) 𝒱₀ (c : Thread nD τ) none Set.univ w Φ = waitSpec (c : Thread nD τ) Set.univ (.dma (xS x)) (amtL x.2.1) Φ)
    (P : sProp 𝕄)
    (hP : bigSep ((Rd (F := F) m).duties (kcell (c, .inr x)) 0 \ ∅) (fun d => (Rd (F := F) m).payload (kcell (c, .inr x)) 0 d) = P) :
    records m K ⊢ (levAts L lv : sProp 𝕄) -∗ atPos ER (kcell (c, .inr x)) 0 ∅ 0 -∗ cred (tallyAt (kcell (c, .inr x)) true (amtL x.2.1))
      -∗ owes (c : Thread nD τ) (owe c n) W
      -∗ ((owes (c : Thread nD τ) (owe c n) (insert (SemLoc.dma (xS x), true) W) ∗ semVal (kcell (c, .inr x)) 0 ∗ P)
          -∗ wp frame (wpE (defs₀ (F := F)) 𝒱₀ (c : Thread nD τ) none) Set.univ (k ⟨⟩) Q)
      -∗ wp frame (wpE (defs₀ (F := F)) 𝒱₀ (c : Thread nD τ) none) Set.univ (.op w k) Q := by
  iintro #HR #HL Hat Hc HO Hk
  iapply (Rounds.wp_wait_rest_token 𝒱₀ ER (Rd m) (c : Thread nD τ) none (κ := K (c, .inr x))
      hw (Set.mem_univ _) true (O := owe c n) (W := W) (R := 0) (m := 0) (T := ∅)
      (by rw [Nat.zero_add]; exact (expect_x m c x).symm)) $$ [Hc HO Hat]
  · isplitr; · iapply (inv_at m K (c, .inr x)); iexact HR
    isplitl [Hc]; · iexact Hc
    isplitl [HO]; · iexact HO
    isplitr
    · iapply (mayWait_of (F := F) c (.dma (xS x)) true n (lvS (.dma (xS x))) (le_of_eq (if_pos rfl)) hl); iexact HL
    iexact Hat
  iintro ⟨HO, Hat, -, Hpay⟩
  ihave Hp := (Entails.of_eq hP) $$ Hpay
  imod (Rounds.cell_close ER (Rd m) (Set.mem_univ (K (c, .inr x))) (fun h => h) (R := 0 + 1) (duties_later m (kcell (c, .inr x)))) $$ [Hat] with Hz
  · isplitr; · iapply (inv_at m K (c, .inr x)); iexact HR
    iexact Hat
  iapply Hk
  isplitl [HO]; · iexact HO
  isplitl [Hz]; · iexact Hz
  iexact Hp

/-- The wait for the landing in slot `s` of layer `l`. -/
theorem step_recv {Q : α → sProp 𝕄} (l s : Fin 3) (n : ℕ) (hl : ∀ i < n, 2 + l.val < lvS (pcell c i).2)
    {w : TpuEff nD τ sig (Elt F) Λ₀ .tc PUnit}
    (hw : ∀ Φ : PUnit → sProp 𝕄, wpE (defs₀ (F := F)) 𝒱₀ (c : Thread nD τ) none Set.univ w Φ = waitSpec (c : Thread nD τ) Set.univ (.dma (recvS l s)) (amtL l) Φ) :
    records m K ⊢ (levAts L lv : sProp 𝕄) -∗ ghostIn c l s -∗ owes (c : Thread nD τ) (owe c n) W
      -∗ ((owes (c : Thread nD τ) (owe c n) (insert (SemLoc.dma (recvS l s), true) W) ∗ semVal (recvCell c l s) 0 ∗ recvPay m c l s)
          -∗ wp frame (wpE (defs₀ (F := F)) 𝒱₀ (c : Thread nD τ) none) Set.univ (k ⟨⟩) Q)
      -∗ wp frame (wpE (defs₀ (F := F)) 𝒱₀ (c : Thread nD τ) none) Set.univ (.op w k) Q := by
  unfold ghostIn
  iintro #HR #HL ⟨Hat, Hc⟩ HO Hk
  iapply (step_wait m K c (true, l, s) n (by rw [lvS_recv]; exact hl) hw (recvPay m c l s) (rest_recv m c l s)) $$ HR HL Hat Hc HO Hk

/-- The wait for the device's own transfer to slot `s` of layer `l`: the send buffer's share back. -/
theorem step_sent {Q : α → sProp 𝕄} (l s : Fin 3) (n : ℕ) (hn : n ≤ 12)
    {w : TpuEff nD τ sig (Elt F) Λ₀ .tc PUnit}
    (hw : ∀ Φ : PUnit → sProp 𝕄, wpE (defs₀ (F := F)) 𝒱₀ (c : Thread nD τ) none Set.univ w Φ = waitSpec (c : Thread nD τ) Set.univ (.dma (sendS l (slotJ s))) (amtL l) Φ) :
    records m K ⊢ (levAts L lv : sProp 𝕄) -∗ atPos ER (sendCell c l (slotJ s)) 0 ∅ 0 -∗ cred (tallyAt (sendCell c l (slotJ s)) true (amtL l))
      -∗ owes (c : Thread nD τ) (owe c n) W
      -∗ ((owes (c : Thread nD τ) (owe c n) (insert (SemLoc.dma (sendS l (slotJ s)), true) W) ∗ semVal (sendCell c l (slotJ s)) 0 ∗ sendPay m c l (slotJ s))
          -∗ wp frame (wpE (defs₀ (F := F)) 𝒱₀ (c : Thread nD τ) none) Set.univ (k ⟨⟩) Q)
      -∗ wp frame (wpE (defs₀ (F := F)) 𝒱₀ (c : Thread nD τ) none) Set.univ (.op w k) Q := by
  iintro #HR #HL Hat Hc HO Hk
  iapply (step_wait m K c (false, l, slotJ s) n (by rw [lvS_send]; exact fun i hi => lvl_all c i (lt_of_lt_of_le hi hn)) hw
    (sendPay m c l (slotJ s)) (rest_send m c l (slotJ s))) $$ HR HL Hat Hc HO Hk

theorem slotJ_slotJ : ∀ s : Fin 3, slotJ (slotJ s) = s := by decide

/-- A whole block sent into slot `s` of layer `l` on the device it goes to. -/
theorem step_send_ar {Q : α → sProp 𝕄} (l : Fin 2) (l' : Fin 3) (hl : l' = l.castSucc) (e : ℕ) (he : e = l.val) (s : Fin 3) (n : Dev nD) (hn : n = dstD s c) (i : ℕ)
    (hc : pcell c i = recvCell (dstD s c) l' s) (ha : pamt i = 8192)
    {dst : Memref sig .tc .vmem S64x2048 .bf16} (hd : dst = arSlot l s) {q₁ q₂ : DmaSem sig} (h₁ : q₁ = sendS l' (slotJ s)) (h₂ : q₂ = recvS l' s)
    {hsc : dst.view.ref.isScScratch = false} {hsrc : (sM : Memref sig .tc .vmem S64x2048 .bf16).view.WordExact} {hdst : dst.view.WordExact}
    {hsem : DmaTarget.Typed .vmem (.dma q₂) (.remote (Dev.tc n : Thread nD τ) dst (.dma q₁) hsc)}
    (f : Buf (Elt F) ((arSlot l s).view.loc (dstD s c : Thread nD τ))) :
    records m K ⊢ sPts c (shareOf (slotJ s)) (sendV m e c) -∗ arPts (dstD s c) l s f -∗ ghostOut c l' s
      -∗ owes (c : Thread nD τ) (owe c (i + 1)) W
      -∗ ((cred (tallyAt (sendCell c l' (slotJ s)) true (amtL l')) ∗ owes (c : Thread nD τ) (owe c i) W)
          -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma sM (.remote (Dev.tc n : Thread nD τ) dst (.dma q₁) hsc) (.dma q₂) hsrc hdst hsem) k) Q := by
  subst hn hd h₁ h₂ he
  have hamt : amtL l' = 8192 := by rw [hl]; exact amtL_ar l
  rw [hamt]
  unfold sPts arPts ghostOut
  iintro #HR Hs Hd ⟨Hts, Htr⟩ HO Hk
  iapply (Rounds.wp_send_pointsTo 𝒱₀ ER (Rd m) (c : Thread nD τ) none (κ₁ := K (c, .inr (false, l', slotJ s))) (κ₂ := K (dstD s c, .inr (true, l', s)))
    (r₁ := 0) (r₂ := 0) (d₁ := 0) (d₂ := 0) (fd := f)
    (by rw [duties_x m c (false, l', slotJ s)]; exact Finset.mem_singleton_self _)
    (by rw [duties_x m (dstD s c) (true, l', s)]; exact Finset.mem_singleton_self _)
    true true 8192 rfl ((amount_x m c (false, l', slotJ s) 0).trans hamt) ((amount_x m (dstD s c) (true, l', s) 0).trans hamt)
    (O₀ := owe c (i + 1)) (owe c i) (owe_succ hc ha) (W := W)
    (by
      rw [payload_send, hl, sendPay_ar]
      unfold sPts
      exact BI.Entails.refl _)
    (by
      rw [payload_recv, hl, recvPay_ar]
      unfold arPts
      refine (pointsTo_rep_of_read (dstD s c : Thread nD τ) (arSlot l s) _ fullShare (sendV m l (srcD s (dstD s c))) ?_).trans ?_
      · rw [src_dst]; exact View.read_write_univ _ _
      · exact BI.Entails.refl _)) $$ [Hs Hd HO Hts Htr]
  · isplitr; · iapply (inv_at m K (c, .inr (false, l', slotJ s))); iexact HR
    isplitr; · iapply (inv_at m K (dstD s c, .inr (true, l', s))); iexact HR
    isplitl [Hs]; · iexact Hs
    isplitl [Hd]; · iexact Hd
    isplitl [HO]; · iexact HO
    isplitl [Hts]; · iexact Hts
    isplitr; · iapply (reached_at m K (c, .inr (false, l', slotJ s))); iexact HR
    isplitl [Htr]; · iexact Htr
    iapply (reached_at m K (dstD s c, .inr (true, l', s))); iexact HR
  iexact Hk

/-- The rows of the device they go to sent into its slot `s`, in the last layer. -/
theorem step_send_rs {Q : α → sProp 𝕄} (s : Fin 3) (n : Dev nD) (hn : n = dstD s c) (i : ℕ)
    (hc : pcell c i = recvCell (dstD s c) 2 s) (ha : pamt i = 2048)
    {src dst : Memref sig .tc .vmem S16x2048 .bf16} (hsr : src = sRow (dstD s c)) (hd : dst = rsSlot s)
    {q₁ q₂ : DmaSem sig} (h₁ : q₁ = sendS 2 (slotJ s)) (h₂ : q₂ = recvS 2 s)
    {hsc : dst.view.ref.isScScratch = false} {hsrc : src.view.WordExact} {hdst : dst.view.WordExact}
    {hsem : DmaTarget.Typed .vmem (.dma q₂) (.remote (Dev.tc n : Thread nD τ) dst (.dma q₁) hsc)}
    (f : Buf (Elt F) ((rsSlot s).view.loc (dstD s c : Thread nD τ))) :
    records m K ⊢ sRowPts c (dstD s c) (shareOf (slotJ s)) (sendV m 2 c) -∗ rsPts (dstD s c) s f -∗ ghostOut c 2 s
      -∗ owes (c : Thread nD τ) (owe c (i + 1)) W
      -∗ ((cred (tallyAt (sendCell c 2 (slotJ s)) true (amtL 2)) ∗ owes (c : Thread nD τ) (owe c i) W)
          -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (Dev.tc n : Thread nD τ) dst (.dma q₁) hsc) (.dma q₂) hsrc hdst hsem) k) Q := by
  subst hn hsr hd h₁ h₂
  have hamt : amtL 2 = 2048 := rfl
  rw [hamt]
  unfold sRowPts rsPts ghostOut
  iintro #HR Hs Hd ⟨Hts, Htr⟩ HO Hk
  iapply (Rounds.wp_send_pointsTo 𝒱₀ ER (Rd m) (c : Thread nD τ) none (κ₁ := K (c, .inr (false, 2, slotJ s))) (κ₂ := K (dstD s c, .inr (true, 2, s)))
    (r₁ := 0) (r₂ := 0) (d₁ := 0) (d₂ := 0) (fd := f)
    (by rw [duties_x m c (false, 2, slotJ s)]; exact Finset.mem_singleton_self _)
    (by rw [duties_x m (dstD s c) (true, 2, s)]; exact Finset.mem_singleton_self _)
    true true 2048 rfl ((amount_x m c (false, 2, slotJ s) 0).trans hamt) ((amount_x m (dstD s c) (true, 2, s) 0).trans hamt)
    (O₀ := owe c (i + 1)) (owe c i) (owe_succ hc ha) (W := W)
    (by
      rw [payload_send]
      unfold sendPay sRowPts
      dsimp only
      rw [slotJ_slotJ])
    (by
      rw [payload_recv]
      refine (pointsTo_rep_of_read (dstD s c : Thread nD τ) (rsSlot s) _ fullShare (rowsB (dstD s c) (sendV m 2 (srcD s (dstD s c)))) ?_).trans ?_
      · rw [src_dst]; exact View.read_write_univ _ _
      · exact BI.Entails.refl _)) $$ [Hs Hd HO Hts Htr]
  · isplitr; · iapply (inv_at m K (c, .inr (false, 2, slotJ s))); iexact HR
    isplitr; · iapply (inv_at m K (dstD s c, .inr (true, 2, s))); iexact HR
    isplitl [Hs]; · iexact Hs
    isplitl [Hd]; · iexact Hd
    isplitl [HO]; · iexact HO
    isplitl [Hts]; · iexact Hts
    isplitr; · iapply (reached_at m K (c, .inr (false, 2, slotJ s))); iexact HR
    isplitl [Htr]; · iexact Htr
    iapply (reached_at m K (dstD s c, .inr (true, 2, s))); iexact HR
  iexact Hk

end Rules

end Cert.KernelIdeal.Hand

end
-- ==== Proof.Vals.lean ====
/-
# Reading the run's values

What a load of a slot reads after a copy or a landing filled it, what a store of a whole buffer leaves, and each store's
payload as one step of the accumulation.
-/
module

public import proofs.«01_k».proof.Proof.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Bool (Elt F) ℕ UU ℕ

/-! ## Loads -/

theorem hz : (![0, 0] : Fin 2 → ℕ) = fun _ => 0 := funext fun a => by fin_cases a <;> rfl

/-- A tile's slot, filled by a copy, loaded. -/
theorem win_read (s : Fin 6) (f : Buf (Elt F) ((winSlot s).view.loc ((0 : Dev nD) : Thread nD τ))) {p q : FVec F S2048x512 .f32} (hp : p = q)
    (L : List (View.Piece (Elt F) S2048x512 .f32)) :
    shapeCast S2048x512 (winM.view.readAt (Elt F) (Rect.unit (s := S6x2048x512) ![s.val, 0, 0] S1x2048x512.size (inb_win s)).toLoadRect
      ((winSlot s).view.writes (Elt F) f (⟨Rect.whole S2048x512, p⟩ :: L))) shapeCasts_S1x2048x512_S2048x512 = q := by
  subst hp; exact View.read_writes_whole (winSlot s).view ((winSlot s).view.writes (Elt F) f L) p
theorem wout_read (s : Fin 6) (f : Buf (Elt F) ((woutSlot s).view.loc ((0 : Dev nD) : Thread nD τ))) {p q : FVec F S512x2048 .f32} (hp : p = q)
    (L : List (View.Piece (Elt F) S512x2048 .f32)) :
    shapeCast S512x2048 (woutM.view.readAt (Elt F) (Rect.unit (s := S6x512x2048) ![s.val, 0, 0] S1x512x2048.size (inb_wout s)).toLoadRect
      ((woutSlot s).view.writes (Elt F) f (⟨Rect.whole S512x2048, p⟩ :: L))) shapeCasts_S1x512x2048_S512x2048 = q := by
  subst hp; exact View.read_writes_whole (woutSlot s).view ((woutSlot s).view.writes (Elt F) f L) p

/-- A landing slot loaded. -/
theorem ar_read (l : Fin 2) (s : Fin 3) {v : FVec F S64x2048 .bf16} {g : arM.view.ty.Contents (Elt F)} (hg : (arSlot l s).view.read (Elt F) g = v) :
    shapeCast S64x2048 (arM.view.readAt (Elt F) (Rect.unit (s := S2x3x64x2048) ![l.val, s.val, 0, 0] S1x1x64x2048.size (inb_ar l s)).toLoadRect g)
      shapeCasts_S1x1x64x2048_S64x2048 = v := hg
theorem rs_read (s : Fin 3) {v : FVec F S16x2048 .bf16} {g : rsM.view.ty.Contents (Elt F)} (hg : (rsSlot s).view.read (Elt F) g = v) :
    shapeCast S16x2048 (rsM.view.readAt (Elt F) (Rect.unit (s := S3x16x2048) ![s.val, 0, 0] S1x16x2048.size (inb_rs s)).toLoadRect g)
      shapeCasts_S1x16x2048_S16x2048 = v := hg

theorem shapeCast_same {s : Shape} {α : Type} (x : s.Idx → α) (h : s.ShapeCasts s) : shapeCast s x h = x :=
  funext fun j => congrArg x (Shape.reshapeEquiv_self h j)

/-! ## Payloads -/

theorem pay_first {x x' : FVec F S64x2048 .f32} (hx : x = x') {vi : Vec F S1x2048x512 .f32} {vo : Vec F S1x512x2048 .f32}
    {wi : FVec F S2048x512 .f32} {wo : FVec F S512x2048 .f32}
    (hi : shapeCast S2048x512 vi shapeCasts_S1x2048x512_S2048x512 = wi) (ho : shapeCast S512x2048 vo shapeCasts_S1x512x2048_S512x2048 = wo) :
    k0_pay2 x vi vo = stepV x' wi wo := by
  subst hx hi ho; exact shapeCast_same _ _

theorem pay_step {x x' : Vec F S64x2048 .f32} (hx : x = x') {vi : Vec F S1x2048x512 .f32} {vo : Vec F S1x512x2048 .f32}
    {wi : FVec F S2048x512 .f32} {wo : FVec F S512x2048 .f32} {a a' : FVec F S64x2048 .f32}
    (hi : shapeCast S2048x512 vi shapeCasts_S1x2048x512_S2048x512 = wi) (ho : shapeCast S512x2048 vo shapeCasts_S1x512x2048_S512x2048 = wo)
    (ha : a = a') : k0_pay3 x vi vo a = addf a' (stepV x' wi wo) := by
  subst hx hi ho ha
  refine (shapeCast_same _ _).trans ?_
  unfold stepV
  rw [shapeCast_same]

/-- The same two payloads where the load of `x` keeps its shape: the layers after the first. -/
theorem pay_first' {x x' : FVec F S64x2048 .f32} (hx : x = x') {vi : Vec F S1x2048x512 .f32} {vo : Vec F S1x512x2048 .f32}
    {wi : FVec F S2048x512 .f32} {wo : FVec F S512x2048 .f32}
    (hi : shapeCast S2048x512 vi shapeCasts_S1x2048x512_S2048x512 = wi) (ho : shapeCast S512x2048 vo shapeCasts_S1x512x2048_S512x2048 = wo) :
    k0_pay15 x vi vo = stepV x' wi wo := by
  subst hx hi ho; exact shapeCast_same _ _

theorem pay_step' {x x' : Vec F S64x2048 .f32} (hx : x = x') {vi : Vec F S1x2048x512 .f32} {vo : Vec F S1x512x2048 .f32}
    {wi : FVec F S2048x512 .f32} {wo : FVec F S512x2048 .f32} {a a' : FVec F S64x2048 .f32}
    (hi : shapeCast S2048x512 vi shapeCasts_S1x2048x512_S2048x512 = wi) (ho : shapeCast S512x2048 vo shapeCasts_S1x512x2048_S512x2048 = wo)
    (ha : a = a') : k0_pay16 x vi vo a = addf a' (stepV x' wi wo) := by
  subst hx hi ho ha; exact shapeCast_same _ _

theorem pay_send {v w : FVec F S64x2048 .f32} (h : v = w) : k0_pay13 v = truncf .bf16 w bitsLt_bf16_f32 := by
  subst h; exact shapeCast_same _ _

theorem pay_merge {a a' : FVec F S64x2048 .f32} (ha : a = a') {u0 u1 u2 : Vec F S1x1x64x2048 .bf16} {b0 b1 b2 : FVec F S64x2048 .bf16}
    (h0 : shapeCast S64x2048 u0 shapeCasts_S1x1x64x2048_S64x2048 = b0) (h1 : shapeCast S64x2048 u1 shapeCasts_S1x1x64x2048_S64x2048 = b1)
    (h2 : shapeCast S64x2048 u2 shapeCasts_S1x1x64x2048_S64x2048 = b2) : k0_pay14 a u0 u1 u2 = mergeV a' b0 b1 b2 := by
  subst ha h0 h1 h2; exact shapeCast_same _ _

theorem pay_out {a a' : FVec F S16x2048 .f32} (ha : a = a') {u0 u1 u2 : Vec F S1x16x2048 .bf16} {b0 b1 b2 : FVec F S16x2048 .bf16}
    (h0 : shapeCast S16x2048 u0 shapeCasts_S1x16x2048_S16x2048 = b0) (h1 : shapeCast S16x2048 u1 shapeCasts_S1x16x2048_S16x2048 = b1)
    (h2 : shapeCast S16x2048 u2 shapeCasts_S1x16x2048_S16x2048 = b2) : k0_pay44 a u0 u1 u2 = mergeRow a' b0 b1 b2 := by
  subst ha h0 h1 h2; rfl

/-! ## Whole buffers -/

theorem writes_whole_full (b : Ref sig .tc) (off : Fin b.ty.shape.rank → ℕ) (inb : ∀ a, off a + b.ty.shape.size a ≤ b.ty.shape.size a)
    (f : b.ty.Contents (Elt F)) (w : b.ty.shape.Idx → Elt F b.ty.elt) (L : List (View.Piece (Elt F) b.ty.shape b.ty.elt)) :
    (Memref.whole b).view.writes (Elt F) f (⟨Rect.unit off b.ty.shape.size inb, w⟩ :: L) = w :=
  View.read_writes_full (Memref.whole b).view f inb w L

/-- One tile's store read back: the tiles of slot `s`, filled by their copies, added to what the accumulator held. -/
theorem acc_next (s : Fin 6) {x x' : FVec F S64x2048 .f32} (hx : x = x')
    {fi : Buf (Elt F) ((winSlot s).view.loc ((0 : Dev nD) : Thread nD τ))} {p wi : FVec F S2048x512 .f32} (hp : p = wi) {Li : List (View.Piece (Elt F) S2048x512 .f32)}
    {fo : Buf (Elt F) ((woutSlot s).view.loc ((0 : Dev nD) : Thread nD τ))} {q wo : FVec F S512x2048 .f32} (hq : q = wo) {Lo : List (View.Piece (Elt F) S512x2048 .f32)}
    {v a : FVec F S64x2048 .f32} (ha : v = a) {L : List (View.Piece (Elt F) S64x2048 .f32)} :
    accM.view.readCov (⟨Rect.unit (s := S64x2048) ![0, 0] S64x2048.size inb_S64x2048_S64x2048_0_0,
        k0_pay3 x
          (winM.view.readAt (Elt F) (Rect.unit (s := S6x2048x512) ![s.val, 0, 0] S1x2048x512.size (inb_win s)).toLoadRect
            ((winSlot s).view.writes (Elt F) fi (⟨Rect.whole S2048x512, p⟩ :: Li)))
          (woutM.view.readAt (Elt F) (Rect.unit (s := S6x512x2048) ![s.val, 0, 0] S1x512x2048.size (inb_wout s)).toLoadRect
            ((woutSlot s).view.writes (Elt F) fo (⟨Rect.whole S512x2048, q⟩ :: Lo))) v⟩ :: L)
      (Rect.unit (s := S64x2048) ![0, 0] S64x2048.size inb_S64x2048_S64x2048_0_0).toLoadRect = addf a (stepV x' wi wo) :=
  (View.readCov_full _ _ _ _ _).trans (pay_step hx (win_read s fi hp Li) (wout_read s fo hq Lo) ha)

theorem acc_first (s : Fin 6) {x x' : FVec F S64x2048 .f32} (hx : x = x')
    {fi : Buf (Elt F) ((winSlot s).view.loc ((0 : Dev nD) : Thread nD τ))} {p wi : FVec F S2048x512 .f32} (hp : p = wi) {Li : List (View.Piece (Elt F) S2048x512 .f32)}
    {fo : Buf (Elt F) ((woutSlot s).view.loc ((0 : Dev nD) : Thread nD τ))} {q wo : FVec F S512x2048 .f32} (hq : q = wo) {Lo : List (View.Piece (Elt F) S512x2048 .f32)}
    {L : List (View.Piece (Elt F) S64x2048 .f32)} :
    accM.view.readCov (⟨Rect.unit (s := S64x2048) ![0, 0] S64x2048.size inb_S64x2048_S64x2048_0_0,
        k0_pay2 x
          (winM.view.readAt (Elt F) (Rect.unit (s := S6x2048x512) ![s.val, 0, 0] S1x2048x512.size (inb_win s)).toLoadRect
            ((winSlot s).view.writes (Elt F) fi (⟨Rect.whole S2048x512, p⟩ :: Li)))
          (woutM.view.readAt (Elt F) (Rect.unit (s := S6x512x2048) ![s.val, 0, 0] S1x512x2048.size (inb_wout s)).toLoadRect
            ((woutSlot s).view.writes (Elt F) fo (⟨Rect.whole S512x2048, q⟩ :: Lo)))⟩ :: L)
      (Rect.unit (s := S64x2048) ![0, 0] S64x2048.size inb_S64x2048_S64x2048_0_0).toLoadRect = stepV x' wi wo :=
  (View.readCov_full _ _ _ _ _).trans (pay_first hx (win_read s fi hp Li) (wout_read s fo hq Lo))

/-- The same two stores in the layers after the first. -/
theorem acc_next' (s : Fin 6) {x x' : FVec F S64x2048 .f32} (hx : x = x')
    {fi : Buf (Elt F) ((winSlot s).view.loc ((0 : Dev nD) : Thread nD τ))} {p wi : FVec F S2048x512 .f32} (hp : p = wi) {Li : List (View.Piece (Elt F) S2048x512 .f32)}
    {fo : Buf (Elt F) ((woutSlot s).view.loc ((0 : Dev nD) : Thread nD τ))} {q wo : FVec F S512x2048 .f32} (hq : q = wo) {Lo : List (View.Piece (Elt F) S512x2048 .f32)}
    {v a : FVec F S64x2048 .f32} (ha : v = a) {L : List (View.Piece (Elt F) S64x2048 .f32)} :
    accM.view.readCov (⟨Rect.unit (s := S64x2048) ![0, 0] S64x2048.size inb_S64x2048_S64x2048_0_0,
        k0_pay16 x
          (winM.view.readAt (Elt F) (Rect.unit (s := S6x2048x512) ![s.val, 0, 0] S1x2048x512.size (inb_win s)).toLoadRect
            ((winSlot s).view.writes (Elt F) fi (⟨Rect.whole S2048x512, p⟩ :: Li)))
          (woutM.view.readAt (Elt F) (Rect.unit (s := S6x512x2048) ![s.val, 0, 0] S1x512x2048.size (inb_wout s)).toLoadRect
            ((woutSlot s).view.writes (Elt F) fo (⟨Rect.whole S512x2048, q⟩ :: Lo))) v⟩ :: L)
      (Rect.unit (s := S64x2048) ![0, 0] S64x2048.size inb_S64x2048_S64x2048_0_0).toLoadRect = addf a (stepV x' wi wo) :=
  (View.readCov_full _ _ _ _ _).trans (pay_step' hx (win_read s fi hp Li) (wout_read s fo hq Lo) ha)

theorem acc_first' (s : Fin 6) {x x' : FVec F S64x2048 .f32} (hx : x = x')
    {fi : Buf (Elt F) ((winSlot s).view.loc ((0 : Dev nD) : Thread nD τ))} {p wi : FVec F S2048x512 .f32} (hp : p = wi) {Li : List (View.Piece (Elt F) S2048x512 .f32)}
    {fo : Buf (Elt F) ((woutSlot s).view.loc ((0 : Dev nD) : Thread nD τ))} {q wo : FVec F S512x2048 .f32} (hq : q = wo) {Lo : List (View.Piece (Elt F) S512x2048 .f32)}
    {L : List (View.Piece (Elt F) S64x2048 .f32)} :
    accM.view.readCov (⟨Rect.unit (s := S64x2048) ![0, 0] S64x2048.size inb_S64x2048_S64x2048_0_0,
        k0_pay15 x
          (winM.view.readAt (Elt F) (Rect.unit (s := S6x2048x512) ![s.val, 0, 0] S1x2048x512.size (inb_win s)).toLoadRect
            ((winSlot s).view.writes (Elt F) fi (⟨Rect.whole S2048x512, p⟩ :: Li)))
          (woutM.view.readAt (Elt F) (Rect.unit (s := S6x512x2048) ![s.val, 0, 0] S1x512x2048.size (inb_wout s)).toLoadRect
            ((woutSlot s).view.writes (Elt F) fo (⟨Rect.whole S512x2048, q⟩ :: Lo)))⟩ :: L)
      (Rect.unit (s := S64x2048) ![0, 0] S64x2048.size inb_S64x2048_S64x2048_0_0).toLoadRect = stepV x' wi wo :=
  (View.readCov_full _ _ _ _ _).trans (pay_first' hx (win_read s fi hp Li) (wout_read s fo hq Lo))

/-! ## The send buffer's shares -/

theorem sPts_eq (c : Dev nD) (q : PosShare TreeShare) (v : FVec F S64x2048 .bf16) :
    sPts c q v = (((Memref.whole cc0_scratch2).view.loc (c : Thread nD τ) ↦{q} (v : Buf (Elt F) ((Memref.whole cc0_scratch2).view.loc (c : Thread nD τ)))) : sProp 𝕄) := by
  unfold sPts; rw [show (sM.view.set : Finset _) = Finset.univ from View.set_whole _]

/-- The send buffer in the three shares its three transfers read. -/
theorem sPts_split (c : Dev nD) (v : FVec F S64x2048 .bf16) :
    (((Memref.whole cc0_scratch2).view.loc (c : Thread nD τ) ↦{fullShare} (v : Buf (Elt F) ((Memref.whole cc0_scratch2).view.loc (c : Thread nD τ)))) : sProp 𝕄)
      ⊣⊢ iprop(sPts c (shareOf (slotJ 2)) v ∗ sPts c (shareOf (slotJ 1)) v ∗ sPts c (shareOf (slotJ 0)) v) := by
  rw [sPts_eq, sPts_eq, sPts_eq]
  show _ ⊣⊢ iprop((_ ↦{fullShare.left} _) ∗ (_ ↦{fullShare.right.left} _) ∗ _ ↦{fullShare.right.right} _)
  constructor
  · exact (pointsTo_share (PosShare.mem_left_op_right fullShare)).1.trans
      (sep_mono_right (pointsTo_share (PosShare.mem_left_op_right fullShare.right)).1)
  · exact (sep_mono_right (pointsTo_share (PosShare.mem_left_op_right fullShare.right)).2).trans
      (pointsTo_share (PosShare.mem_left_op_right fullShare)).2

/-- What is left of a share when the rows of device `t` are out of it. -/
def sRest (c t : Dev nD) (q : PosShare TreeShare) (v : FVec F S64x2048 .bf16) : sProp 𝕄 :=
  sM.view.loc (c : Thread nD τ) ↦[sM.view.set \ (sRow t).view.set]{q} (v : Buf (Elt F) (sM.view.loc (c : Thread nD τ)))

theorem sRow_split (c t : Dev nD) (q : PosShare TreeShare) (v : FVec F S64x2048 .bf16) :
    (sPts c q v : sProp 𝕄) ⊣⊢ iprop(sRowPts c t q v ∗ sRest c t q v) := by
  unfold sPts sRowPts sRest
  exact pointsTo_split_subset (by rw [show (sM.view.set : Finset _) = Finset.univ from View.set_whole _]; exact Finset.subset_univ _)

/-- A slice's offsets as computed. -/
theorem sRow_of (t : Dev nD) {off : Fin 2 → ℕ} (h : off = ![16 * t.val, 0]) (inb : ∀ a, off a + S16x2048.size a ≤ S64x2048.size a) :
    (sM : Memref sig .tc .vmem S64x2048 .bf16).slice (Rect.unit (s := S64x2048) off S16x2048.size inb) (fun _ => rfl) = sRow t := by
  subst h; rfl
theorem rowsF_of (t : Dev nD) {off : Fin 2 → ℕ} (h : off = ![16 * t.val, 0]) (inb : ∀ a, off a + S16x2048.size a ≤ S64x2048.size a) (v : FVec F S64x2048 .f32) :
    accM.view.readAt (Elt F) (Rect.unit (s := S64x2048) off S16x2048.size inb).toLoadRect v = rowsF t v := by
  subst h; rfl
theorem off1_eq (c : Dev nD) (s : Fin 3) : k0_off1 c (BitVec.ofNat 32 (2 - s.val)) = ![16 * (dstD s c).val, 0] := by revert c s; decide +kernel

/-- What the stores of a whole buffer leave is what loading it whole then reads. -/
theorem writes_of_readCov (b : Ref sig .tc) (off : Fin b.ty.shape.rank → ℕ) (inb : ∀ a, off a + b.ty.shape.size a ≤ b.ty.shape.size a)
    (f : b.ty.Contents (Elt F)) (w : b.ty.shape.Idx → Elt F b.ty.elt) (L : List (View.Piece (Elt F) b.ty.shape b.ty.elt)) {v : b.ty.shape.Idx → Elt F b.ty.elt}
    (h : (Memref.whole b).view.readCov (⟨Rect.unit off b.ty.shape.size inb, w⟩ :: L) (Rect.unit off b.ty.shape.size inb).toLoadRect = v) :
    (Memref.whole b).view.writes (Elt F) f (⟨Rect.unit off b.ty.shape.size inb, w⟩ :: L) = v :=
  (writes_whole_full b off inb f w L).trans ((View.readCov_full (Memref.whole b).view _ _ w L).symm.trans h)

theorem pts_eq {ℓ : Loc nD τ sig} {f g : Buf (Elt F) ℓ} (h : f = g) : (ℓ ↦{fullShare} f : sProp 𝕄) ⊢ ℓ ↦{fullShare} g := by
  subst h; exact BI.Entails.refl _

variable (m : (ℓ : Loc nD τ sig) → Buf (Elt F) ℓ)

/-- The landing slots, opened and closed again. -/
theorem recv_ar (c : Dev nD) (l : Fin 2) (l' : Fin 3) (hl : l' = l.castSucc) (s : Fin 3) :
    recvPay m c l' s ⊣⊢ ((arSlot l s).view.loc (c : Thread nD τ) ↦[(arSlot l s).view.set]{fullShare} ((arSlot l s).view.rep (sendV m l (srcD s c)) : Buf (Elt F) ((arSlot l s).view.loc (c : Thread nD τ))) : sProp 𝕄) := by
  subst hl; rw [recvPay_ar]; unfold arPts; exact ⟨BI.Entails.refl _, BI.Entails.refl _⟩
theorem sent_ar (c : Dev nD) (l : Fin 2) (l' : Fin 3) (hl : l' = l.castSucc) (e : ℕ) (he : e = l.val) (j : Fin 3) :
    sendPay m c l' j ⊢ (sPts c (shareOf j) (sendV m e c) : sProp 𝕄) := by
  subst hl he; rw [sendPay_ar]
theorem recv_rs (c : Dev nD) (s : Fin 3) :
    recvPay m c 2 s ⊣⊢ ((rsSlot s).view.loc (c : Thread nD τ) ↦[(rsSlot s).view.set]{fullShare} ((rsSlot s).view.rep (rowsB c (sendV m 2 (srcD s c))) : Buf (Elt F) ((rsSlot s).view.loc (c : Thread nD τ))) : sProp 𝕄) := by
  unfold recvPay rsPts; exact ⟨BI.Entails.refl _, BI.Entails.refl _⟩

end Cert.KernelIdeal.Hand

end
-- ==== Proof.Local.lean ====
/-
# What the body works on

What one device's body starts from and what it leaves.
-/
module

public import proofs.«01_k».proof.Proof.Vals

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Bool (Elt F) ℕ UU ℕ

abbrev winCell (s : Fin 6) : DmaSem sig :=
  ((cc0_scratch7.slice (Rect.unit (s := S6) ![s.val] S1.size (by revert s; decide))).squeeze S_ squeezes_S1_S_ : DmaSems sig S_).sem
abbrev woutCell (s : Fin 6) : DmaSem sig :=
  ((cc0_scratch8.slice (Rect.unit (s := S6) ![s.val] S1.size (by revert s; decide))).squeeze S_ squeezes_S1_S_ : DmaSems sig S_).sem

variable (m : (ℓ : Loc nD τ sig) → Buf (Elt F) ℓ) (K : Dev nD × CK → ℕ)

/-- A share of a weight array, numbered by the semaphore of the copies that read it. -/
def tok (c : Dev nD) (b : Ref sig .tc) (i : ℕ) : sProp 𝕄 := iprop((Memref.whole b).view.loc (c : Thread nD τ) ↦{shareTokN fullShare i} m ((c : Thread nD τ).loc b))

theorem dev1_eq (c : Dev nD) : (⟨k0_dev1 c, k0_dev1_lt c⟩ : Dev nD) = srcD 0 c := by revert c; decide
theorem dev2_eq (c : Dev nD) : (⟨k0_dev2 c, k0_dev2_lt c⟩ : Dev nD) = srcD 1 c := by revert c; decide
theorem dev3_eq (c : Dev nD) : (⟨k0_dev3 c, k0_dev3_lt c⟩ : Dev nD) = srcD 2 c := by revert c; decide
theorem dev4_eq (c : Dev nD) : (⟨k0_dev4 c, k0_dev4_lt c⟩ : Dev nD) = dstD 2 c := by revert c; decide
theorem dev5_eq (c : Dev nD) : (⟨k0_dev5 c, k0_dev5_lt c⟩ : Dev nD) = dstD 1 c := by revert c; decide
theorem dev6_eq (c : Dev nD) : (⟨k0_dev6 c, k0_dev6_lt c⟩ : Dev nD) = dstD 0 c := by revert c; decide
theorem dev7_eq (c : Dev nD) : (⟨k0_dev7 c, k0_dev7_lt c⟩ : Dev nD) = dstD 2 c := by revert c; decide
theorem dev8_eq (c : Dev nD) : (⟨k0_dev8 c, k0_dev8_lt c⟩ : Dev nD) = dstD 1 c := by revert c; decide
theorem dev9_eq (c : Dev nD) : (⟨k0_dev9 c, k0_dev9_lt c⟩ : Dev nD) = dstD 0 c := by revert c; decide
theorem dev10_eq (c : Dev nD) : (⟨k0_dev10 c, k0_dev10_lt c⟩ : Dev nD) = dstD 2 c := by revert c; decide
theorem dev11_eq (c : Dev nD) : (⟨k0_dev11 c, k0_dev11_lt c⟩ : Dev nD) = dstD 1 c := by revert c; decide
theorem dev12_eq (c : Dev nD) : (⟨k0_dev12 c, k0_dev12_lt c⟩ : Dev nD) = dstD 0 c := by revert c; decide

/-- A slot of the tiles' buffers, and a whole buffer, whatever it holds. -/
def winE (c : Dev nD) (s : Fin 6) : sProp 𝕄 :=
  iprop(∃ f : Buf (Elt F) ((winSlot s).view.loc (c : Thread nD τ)), (winSlot s).view.loc (c : Thread nD τ) ↦[(winSlot s).view.set]{fullShare} f)
def woutE (c : Dev nD) (s : Fin 6) : sProp 𝕄 :=
  iprop(∃ f : Buf (Elt F) ((woutSlot s).view.loc (c : Thread nD τ)), (woutSlot s).view.loc (c : Thread nD τ) ↦[(woutSlot s).view.set]{fullShare} f)
def bufE (c : Dev nD) (b : Ref sig .tc) : sProp 𝕄 :=
  iprop(∃ f : Buf (Elt F) ((c : Thread nD τ).loc b), (Memref.whole b).view.loc (c : Thread nD τ) ↦{fullShare} f)
/-- The six shares of a first weight's array, and of a second's. -/
def winToks (c : Dev nD) (b : Ref sig .tc) : sProp 𝕄 :=
  iprop(tok m c b 2 ∗ tok m c b 3 ∗ tok m c b 4 ∗ tok m c b 5 ∗ tok m c b 6 ∗ tok m c b 7)
def woutToks (c : Dev nD) (b : Ref sig .tc) : sProp 𝕄 :=
  iprop(tok m c b 8 ∗ tok m c b 9 ∗ tok m c b 10 ∗ tok m c b 11 ∗ tok m c b 12 ∗ tok m c b 13)
def tileSems (c : Dev nD) : sProp 𝕄 :=
  iprop(semVal (c, .dma (winCell 0)) 0 ∗ semVal (c, .dma (winCell 1)) 0 ∗ semVal (c, .dma (winCell 2)) 0 ∗ semVal (c, .dma (winCell 3)) 0 ∗ semVal (c, .dma (winCell 4)) 0 ∗ semVal (c, .dma (winCell 5)) 0 ∗ semVal (c, .dma (woutCell 0)) 0 ∗ semVal (c, .dma (woutCell 1)) 0 ∗ semVal (c, .dma (woutCell 2)) 0 ∗ semVal (c, .dma (woutCell 3)) 0 ∗ semVal (c, .dma (woutCell 4)) 0 ∗ semVal (c, .dma (woutCell 5)) 0)

/-- What the body works on alone, and gives back: scratch buffers, slots, shares of the weights, the copies' semaphores. -/
def localRes (c : Dev nD) : sProp 𝕄 :=
  iprop(bufE c cc0_scratch0 ∗ bufE c cc0_scratch1 ∗ bufE c cc0_scratch2
    ∗ winE c 0 ∗ winE c 1 ∗ winE c 2 ∗ winE c 3 ∗ winE c 4 ∗ winE c 5
    ∗ woutE c 0 ∗ woutE c 1 ∗ woutE c 2 ∗ woutE c 3 ∗ woutE c 4 ∗ woutE c 5
    ∗ winToks m c main_arg1 ∗ woutToks m c main_arg4 ∗ winToks m c main_arg2 ∗ woutToks m c main_arg5
    ∗ winToks m c main_arg3 ∗ woutToks m c main_arg6 ∗ tileSems c)

/-- What it brings to the transfers of layer `l` and slot `s`. -/
def ghostX (c : Dev nD) (l s : Fin 3) : sProp 𝕄 :=
  iprop(ghostOut c l s ∗ ghostIn c l s ∗ atPos ER (sendCell c l (slotJ s)) 0 ∅ 0)
/-- What it brings to the exchange: its slots, the tokens of the barrier's signals, its parts in the barrier and in the transfers. -/
def ghosts (c : Dev nD) : sProp 𝕄 :=
  iprop((slotsOf c 0 ∗ slotsOf c 1 ∗ slotsOf c 2)
    ∗ (dutyTok ER (barCell (srcD 0 c)) 0 0 ∗ dutyTok ER (barCell (srcD 1 c)) 0 1 ∗ dutyTok ER (barCell (srcD 2 c)) 0 2) ∗ ghostBar c
    ∗ (ghostX c 0 0 ∗ ghostX c 0 1 ∗ ghostX c 0 2) ∗ (ghostX c 1 0 ∗ ghostX c 1 1 ∗ ghostX c 1 2) ∗ (ghostX c 2 0 ∗ ghostX c 2 1 ∗ ghostX c 2 2))

/-- The two semaphores of layer `l` and slot `s`, back at zero. -/
def zeroX (c : Dev nD) (l s : Fin 3) : sProp 𝕄 := iprop(semVal (recvCell c l s) 0 ∗ semVal (sendCell c l (slotJ s)) 0)
def zeros (c : Dev nD) : sProp 𝕄 :=
  iprop(semVal (barCell c) 0
    ∗ (zeroX c 0 0 ∗ zeroX c 0 1 ∗ zeroX c 0 2) ∗ (zeroX c 1 0 ∗ zeroX c 1 1 ∗ zeroX c 1 2) ∗ (zeroX c 2 0 ∗ zeroX c 2 1 ∗ zeroX c 2 2))

/-- What the body leaves. -/
def bodyOut (c : Dev nD) : sProp 𝕄 :=
  iprop(((Memref.whole cc0_stg0_0).view.loc (c : Thread nD τ) ↦{fullShare} (xstg m c : Buf (Elt F) ((c : Thread nD τ).loc cc0_stg0_0)))
    ∗ ((Memref.whole cc0_stg1_0).view.loc (c : Thread nD τ) ↦{fullShare} (outV m c : Buf (Elt F) ((c : Thread nD τ).loc cc0_stg1_0)))
    ∗ localRes m c ∗ zeros c ∗ (slotsOf c 0 ∗ slotsOf c 1 ∗ slotsOf c 2) ∗ ∃ W : Waits sig Bool, owes (c : Thread nD τ) 0 W)

theorem sent_rs (c : Dev nD) (s : Fin 3) : sendPay m c 2 (slotJ s) ⊢ (sRowPts c (dstD s c) (shareOf (slotJ s)) (sendV m 2 c) : sProp 𝕄) := by
  show sRowPts c (dstD (slotJ (slotJ s)) c) (shareOf (slotJ s)) (sendV m 2 c) ⊢ _
  rw [slotJ_slotJ]

end Cert.KernelIdeal.Hand

end
-- ==== Proof.Slots.lean ====
/-
# The buffers cut into their slots

Each buffer of slots is its slots, and its slots joined are the buffer; each weight's array gives the shares its copies read.
-/
module

public import proofs.«01_k».proof.Proof.Local
public import Idealize.ShloMosaic.Lib.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Ring (lead_disjoint lead_cover pointsTo_blocks pointsTo_blocks_join_exists)

variable {F : FTy → Type} [FloatOps F]

local notation "𝕄" => MT nD τ sig Bool (Elt F) ℕ UU ℕ

variable (m : (ℓ : Loc nD τ sig) → Buf (Elt F) ℓ)

/-! ## Which elements a slot is -/

abbrev winR (s : Fin 6) : Rect S6x2048x512 := Rect.unit (s := S6x2048x512) ![s.val, 0, 0] S1x2048x512.size (inb_win s)
abbrev woutR (s : Fin 6) : Rect S6x512x2048 := Rect.unit (s := S6x512x2048) ![s.val, 0, 0] S1x512x2048.size (inb_wout s)
abbrev rsR (s : Fin 3) : Rect S3x16x2048 := Rect.unit (s := S3x16x2048) ![s.val, 0, 0] S1x16x2048.size (inb_rs s)
abbrev arR (x : Fin 2 × Fin 3) : Rect S2x3x64x2048 := Rect.unit (s := S2x3x64x2048) ![x.1.val, x.2.val, 0, 0] S1x1x64x2048.size (inb_ar x.1 x.2)

theorem winSlot_set (s : Fin 6) : (winSlot s).view.set = (winR s).set := (Memref.set_view_squeeze _ _).trans (View.set_slice_whole cc0_scratch3 (winR s))
theorem woutSlot_set (s : Fin 6) : (woutSlot s).view.set = (woutR s).set := (Memref.set_view_squeeze _ _).trans (View.set_slice_whole cc0_scratch4 (woutR s))
theorem arSlot_set (l : Fin 2) (s : Fin 3) : (arSlot l s).view.set = (arR (l, s)).set := (Memref.set_view_squeeze _ _).trans (View.set_slice_whole cc0_scratch5 (arR (l, s)))
theorem rsSlot_set (s : Fin 3) : (rsSlot s).view.set = (rsR s).set := (Memref.set_view_squeeze _ _).trans (View.set_slice_whole cc0_scratch6 (rsR s))

theorem off_rest {n : ℕ} (a : Fin 3) (h : a ≠ 0) : (![n, 0, 0] : Fin 3 → ℕ) a = 0 := by
  fin_cases a
  · exact absurd rfl h
  · rfl
  · rfl

theorem win_disj (s s' : Fin 6) (h : s ≠ s') : Disjoint (winR s).set (winR s').set :=
  lead_disjoint (s := S6x2048x512) (0 : Fin 3) 1 (fun s : Fin 6 => ![s.val, 0, 0]) S1x2048x512.size inb_win (fun s => (Nat.one_mul _).symm) rfl s s' h
theorem win_cover : Finset.univ.biUnion (fun s => (winR s).set) = Finset.univ :=
  lead_cover (s := S6x2048x512) (0 : Fin 3) 1 (fun s : Fin 6 => ![s.val, 0, 0]) S1x2048x512.size inb_win (fun s => (Nat.one_mul _).symm) (fun _ a h => off_rest a h) rfl
    (by decide) rfl
theorem wout_disj (s s' : Fin 6) (h : s ≠ s') : Disjoint (woutR s).set (woutR s').set :=
  lead_disjoint (s := S6x512x2048) (0 : Fin 3) 1 (fun s : Fin 6 => ![s.val, 0, 0]) S1x512x2048.size inb_wout (fun s => (Nat.one_mul _).symm) rfl s s' h
theorem wout_cover : Finset.univ.biUnion (fun s => (woutR s).set) = Finset.univ :=
  lead_cover (s := S6x512x2048) (0 : Fin 3) 1 (fun s : Fin 6 => ![s.val, 0, 0]) S1x512x2048.size inb_wout (fun s => (Nat.one_mul _).symm) (fun _ a h => off_rest a h) rfl
    (by decide) rfl
theorem rs_disj (s s' : Fin 3) (h : s ≠ s') : Disjoint (rsR s).set (rsR s').set :=
  lead_disjoint (s := S3x16x2048) (0 : Fin 3) 1 (fun s : Fin 3 => ![s.val, 0, 0]) S1x16x2048.size inb_rs (fun s => (Nat.one_mul _).symm) rfl s s' h
theorem rs_cover : Finset.univ.biUnion (fun s => (rsR s).set) = Finset.univ :=
  lead_cover (s := S3x16x2048) (0 : Fin 3) 1 (fun s : Fin 3 => ![s.val, 0, 0]) S1x16x2048.size inb_rs (fun s => (Nat.one_mul _).symm) (fun _ a h => off_rest a h) rfl
    (by decide) rfl

/-- An element of a landing slot of the first two layers, by its two leading coordinates. -/
theorem mem_ar (x : Fin 2 × Fin 3) (i : S2x3x64x2048.Idx) : i ∈ (arR x).set ↔ (i 0).val = x.1.val ∧ (i 1).val = x.2.val := by
  refine Rect.mem_set_unit.trans ⟨fun h => ?_, fun h a => ?_⟩
  · have h0 : x.1.val ≤ (i 0).val ∧ (i 0).val < x.1.val + 1 := h 0
    have h1 : x.2.val ≤ (i 1).val ∧ (i 1).val < x.2.val + 1 := h 1
    omega
  · fin_cases a
    · show x.1.val ≤ (i 0).val ∧ (i 0).val < x.1.val + 1; omega
    · show x.2.val ≤ (i 1).val ∧ (i 1).val < x.2.val + 1; omega
    · exact ⟨Nat.zero_le _, by have : (i 2).val < 64 := (i 2).isLt; show (i 2).val < 0 + 64; omega⟩
    · exact ⟨Nat.zero_le _, by have : (i 3).val < 2048 := (i 3).isLt; show (i 3).val < 0 + 2048; omega⟩
theorem ar_disj (x x' : Fin 2 × Fin 3) (h : x ≠ x') : Disjoint (arR x).set (arR x').set := by
  rw [Finset.disjoint_left]
  intro i hi hi'
  have h1 := (mem_ar x i).mp hi
  have h2 := (mem_ar x' i).mp hi'
  exact h (Prod.ext (Fin.ext (h1.1.symm.trans h2.1)) (Fin.ext (h1.2.symm.trans h2.2)))
theorem ar_cover : Finset.univ.biUnion (fun x => (arR x).set) = Finset.univ := by
  ext i
  simp only [Finset.mem_biUnion, Finset.mem_univ, true_and, iff_true]
  exact ⟨(⟨(i 0).val, (i 0).isLt⟩, ⟨(i 1).val, (i 1).isLt⟩), (mem_ar _ i).mpr ⟨rfl, rfl⟩⟩

/-! ## Cutting and joining -/

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem bigSep_fin2 (Φ : Fin 2 → sProp 𝕄) : bigSep Finset.univ Φ = iprop(Φ 0 ∗ Φ 1) :=
  bigSep_univ_eq_bigSepL [0, 1] (by decide) (by decide) Φ
theorem bigSep_range14 (Φ : ℕ → sProp 𝕄) : bigSep (Finset.range 14) Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_eq_bigSepL_of_eq (S := Finset.range 14) [0, 1, 2, 3, 4, 5, 6, 7, 8, 9, 10, 11, 12, 13] (by decide) (by decide) Φ

/-- Pieces of a buffer, each at some contents: the buffer at some contents. -/
theorem pieces {B : Type} [Fintype B] [DecidableEq B] {ℓ : Loc nD τ sig} (I : B → Finset (Idx ℓ))
    (hd : ∀ b b', b ≠ b' → Disjoint (I b) (I b')) (hc : Finset.univ.biUnion I = Finset.univ) :
    (iprop(∃ f : Buf (Elt F) ℓ, ℓ ↦{fullShare} f) : sProp 𝕄) ⊢ bigSep Finset.univ fun b => iprop(∃ f : Buf (Elt F) ℓ, ℓ ↦[I b]{fullShare} f) := by
  iintro ⟨%f, H⟩
  ihave H := (Entails.of_eq (pointsTo_blocks I hd hc f)) $$ H
  have h : (bigSep Finset.univ fun b => (ℓ ↦[I b]{fullShare} f : sProp 𝕄)) ⊢ bigSep Finset.univ fun b => iprop(∃ f : Buf (Elt F) ℓ, ℓ ↦[I b]{fullShare} f) :=
    bigSep_mono fun b _ => show (ℓ ↦[I b]{fullShare} f : sProp 𝕄) ⊢ iprop(∃ f : Buf (Elt F) ℓ, ℓ ↦[I b]{fullShare} f) from by
      iintro H; iexists f; iexact H
  iapply h
  iexact H

theorem winE_eq (c : Dev nD) (s : Fin 6) : (winE c s : sProp 𝕄)
    = iprop(∃ f : Buf (Elt F) ((c : Thread nD τ).loc cc0_scratch3), ((c : Thread nD τ).loc cc0_scratch3) ↦[(winR s).set]{fullShare} f) := by
  unfold winE; rw [winSlot_set]
theorem woutE_eq (c : Dev nD) (s : Fin 6) : (woutE c s : sProp 𝕄)
    = iprop(∃ f : Buf (Elt F) ((c : Thread nD τ).loc cc0_scratch4), ((c : Thread nD τ).loc cc0_scratch4) ↦[(woutR s).set]{fullShare} f) := by
  unfold woutE; rw [woutSlot_set]
theorem arE_eq (c : Dev nD) (x : Fin 2 × Fin 3) : (iprop(∃ f, arPts c x.1 x.2 f) : sProp 𝕄)
    = iprop(∃ f : Buf (Elt F) ((c : Thread nD τ).loc cc0_scratch5), ((c : Thread nD τ).loc cc0_scratch5) ↦[(arR x).set]{fullShare} f) := by
  unfold arPts; rw [arSlot_set]
theorem rsE_eq (c : Dev nD) (s : Fin 3) : (iprop(∃ f, rsPts c s f) : sProp 𝕄)
    = iprop(∃ f : Buf (Elt F) ((c : Thread nD τ).loc cc0_scratch6), ((c : Thread nD τ).loc cc0_scratch6) ↦[(rsR s).set]{fullShare} f) := by
  unfold rsPts; rw [rsSlot_set]

theorem win_split (c : Dev nD) : (iprop(∃ f : Buf (Elt F) ((c : Thread nD τ).loc cc0_scratch3), ((c : Thread nD τ).loc cc0_scratch3) ↦{fullShare} f) : sProp 𝕄)
    ⊢ iprop(winE c 0 ∗ winE c 1 ∗ winE c 2 ∗ winE c 3 ∗ winE c 4 ∗ winE c 5) := by
  rw [← bigSep_fin6 (fun s => winE c s), bigSep_congr fun s _ => winE_eq c s]
  exact pieces (ℓ := (c : Thread nD τ).loc cc0_scratch3) (fun s => (winR s).set) win_disj win_cover
theorem wout_split (c : Dev nD) : (iprop(∃ f : Buf (Elt F) ((c : Thread nD τ).loc cc0_scratch4), ((c : Thread nD τ).loc cc0_scratch4) ↦{fullShare} f) : sProp 𝕄)
    ⊢ iprop(woutE c 0 ∗ woutE c 1 ∗ woutE c 2 ∗ woutE c 3 ∗ woutE c 4 ∗ woutE c 5) := by
  rw [← bigSep_fin6 (fun s => woutE c s), bigSep_congr fun s _ => woutE_eq c s]
  exact pieces (ℓ := (c : Thread nD τ).loc cc0_scratch4) (fun s => (woutR s).set) wout_disj wout_cover

include m in
theorem win_join (c : Dev nD) : (iprop(winE c 0 ∗ winE c 1 ∗ winE c 2 ∗ winE c 3 ∗ winE c 4 ∗ winE c 5) : sProp 𝕄)
    ⊢ iprop(∃ f : Buf (Elt F) ((c : Thread nD τ).loc cc0_scratch3), ((c : Thread nD τ).loc cc0_scratch3) ↦{fullShare} f) := by
  rw [← bigSep_fin6 (fun s => winE c s), bigSep_congr fun s _ => winE_eq c s]
  exact pointsTo_blocks_join_exists (ℓ := (c : Thread nD τ).loc cc0_scratch3) (fun s => (winR s).set) win_disj win_cover (m _)
include m in
theorem wout_join (c : Dev nD) : (iprop(woutE c 0 ∗ woutE c 1 ∗ woutE c 2 ∗ woutE c 3 ∗ woutE c 4 ∗ woutE c 5) : sProp 𝕄)
    ⊢ iprop(∃ f : Buf (Elt F) ((c : Thread nD τ).loc cc0_scratch4), ((c : Thread nD τ).loc cc0_scratch4) ↦{fullShare} f) := by
  rw [← bigSep_fin6 (fun s => woutE c s), bigSep_congr fun s _ => woutE_eq c s]
  exact pointsTo_blocks_join_exists (ℓ := (c : Thread nD τ).loc cc0_scratch4) (fun s => (woutR s).set) wout_disj wout_cover (m _)

/-- The landing slots of a device: of the first layer, the middle one, the last. -/
def landing (c : Dev nD) : sProp 𝕄 := iprop(slotsOf c 0 ∗ slotsOf c 1 ∗ slotsOf c 2)

theorem landing_eq (c : Dev nD) : (landing c : sProp 𝕄)
    = iprop((bigSep Finset.univ fun x : Fin 2 × Fin 3 => iprop(∃ f, arPts c x.1 x.2 f)) ∗ bigSep Finset.univ fun s : Fin 3 => iprop(∃ f, rsPts c s f)) := by
  have h : (bigSep Finset.univ fun s : Fin 3 => slotsOf c s : sProp 𝕄)
      = iprop((bigSep Finset.univ fun s : Fin 3 => iprop(∃ f, arPts c 0 s f)) ∗ (bigSep Finset.univ fun s : Fin 3 => iprop(∃ f, arPts c 1 s f)) ∗ bigSep Finset.univ fun s : Fin 3 => iprop(∃ f, rsPts c s f)) := by
    unfold slotsOf; rw [bigSep_sep', bigSep_sep']
  unfold landing
  rw [← bigSep_fin3 (fun s => slotsOf c s), h, bigSep_univ_prod (fun x : Fin 2 × Fin 3 => (iprop(∃ f, arPts c x.1 x.2 f) : sProp 𝕄)),
    bigSep_fin2]
  exact BI.equiv_iff.mp ⟨BI.sep_assoc', BI.sep_assoc⟩

theorem landing_split (c : Dev nD) :
    (iprop((∃ f : Buf (Elt F) ((c : Thread nD τ).loc cc0_scratch5), ((c : Thread nD τ).loc cc0_scratch5) ↦{fullShare} f)
      ∗ ∃ f : Buf (Elt F) ((c : Thread nD τ).loc cc0_scratch6), ((c : Thread nD τ).loc cc0_scratch6) ↦{fullShare} f) : sProp 𝕄) ⊢ landing c := by
  rw [landing_eq, bigSep_congr fun x _ => arE_eq c x, bigSep_congr fun s _ => rsE_eq c s]
  exact BI.sep_mono (pieces (ℓ := (c : Thread nD τ).loc cc0_scratch5) (fun x => (arR x).set) ar_disj ar_cover)
    (pieces (ℓ := (c : Thread nD τ).loc cc0_scratch6) (fun s => (rsR s).set) rs_disj rs_cover)
include m in
theorem landing_join (c : Dev nD) : (landing c : sProp 𝕄)
    ⊢ iprop((∃ f : Buf (Elt F) ((c : Thread nD τ).loc cc0_scratch5), ((c : Thread nD τ).loc cc0_scratch5) ↦{fullShare} f)
      ∗ ∃ f : Buf (Elt F) ((c : Thread nD τ).loc cc0_scratch6), ((c : Thread nD τ).loc cc0_scratch6) ↦{fullShare} f) := by
  rw [landing_eq, bigSep_congr fun x _ => arE_eq c x, bigSep_congr fun s _ => rsE_eq c s]
  exact BI.sep_mono (pointsTo_blocks_join_exists (ℓ := (c : Thread nD τ).loc cc0_scratch5) (fun x => (arR x).set) ar_disj ar_cover (m _))
    (pointsTo_blocks_join_exists (ℓ := (c : Thread nD τ).loc cc0_scratch6) (fun s => (rsR s).set) rs_disj rs_cover (m _))

/-! ## The weights' shares -/

theorem toks14 (c : Dev nD) (b : Ref sig .tc) :
    (((c : Thread nD τ).loc b) ↦{fullShare} m ((c : Thread nD τ).loc b) : sProp 𝕄)
      ⊢ iprop(tok m c b 0 ∗ winToks m c b ∗ woutToks m c b) := by
  refine BIBase.Entails.trans (pointsTo_toks_range fullShare 14).1 ?_
  rw [bigSep_range14]
  unfold winToks woutToks tok
  iintro ⟨-, T0, -, T2, T3, T4, T5, T6, T7, T8, T9, T10, T11, T12, T13⟩
  isplitl [T0]; · iexact T0
  isplitr [T8 T9 T10 T11 T12 T13]
  · isplitl [T2]; · iexact T2
    isplitl [T3]; · iexact T3
    isplitl [T4]; · iexact T4
    isplitl [T5]; · iexact T5
    isplitl [T6]; · iexact T6
    iexact T7
  · isplitl [T8]; · iexact T8
    isplitl [T9]; · iexact T9
    isplitl [T10]; · iexact T10
    isplitl [T11]; · iexact T11
    isplitl [T12]; · iexact T12
    iexact T13

end Cert.KernelIdeal.Hand

end
-- ==== Proof.Ghost.lean ====
/-
# The exchange's tokens and records

Minted once for all devices: each cell's invariant, each device's position at its own cells, each duty's token, dealt
to the device that pays it; and the credits a device starts with, out of what the others owe it.
-/
module

public import proofs.«01_k».proof.Proof.Slots

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Bool (Elt F) ℕ UU ℕ

variable (m : (ℓ : Loc nD τ sig) → Buf (Elt F) ℓ) (K : Dev nD × CK → ℕ)

/-! ## One thing for each layer and slot -/

def grid (Ψ : Fin 3 → Fin 3 → sProp 𝕄) : sProp 𝕄 := bigSep Finset.univ fun x : Fin 3 × Fin 3 => Ψ x.1 x.2

theorem grid_sep (A B : Fin 3 → Fin 3 → sProp 𝕄) : grid (fun l s => iprop(A l s ∗ B l s)) = iprop(grid A ∗ grid B) := bigSep_sep' _ _ _
theorem grid_chain (Ψ : Fin 3 → Fin 3 → sProp 𝕄) : grid Ψ
    = iprop((Ψ 0 0 ∗ Ψ 0 1 ∗ Ψ 0 2) ∗ (Ψ 1 0 ∗ Ψ 1 1 ∗ Ψ 1 2) ∗ (Ψ 2 0 ∗ Ψ 2 1 ∗ Ψ 2 2)) := by
  unfold grid
  rw [bigSep_univ_prod (fun x : Fin 3 × Fin 3 => Ψ x.1 x.2), bigSep_congr (s := Finset.univ) fun l _ => bigSep_fin3 fun s => Ψ l s, bigSep_fin3]

/-- A slot and the number of the transfer into it. -/
def slotE : Fin 3 ≃ Fin 3 := ⟨slotJ, slotJ, slotJ_slotJ, slotJ_slotJ⟩

theorem grid_slotJ (Ψ : Fin 3 → Fin 3 → sProp 𝕄) : grid Ψ = grid fun l s => Ψ l (slotJ s) :=
  bigSep_univ_equiv (Equiv.prodCongr (Equiv.refl (Fin 3)) slotE) _

/-- One thing for each of the exchange's transfer semaphores: the receive ones, then the send ones by slot. -/
theorem xs_eq (Φ : Bool × Fin 3 × Fin 3 → sProp 𝕄) : bigSep Finset.univ Φ
    = iprop(grid (fun l s => Φ (true, l, s)) ∗ grid fun l s => Φ (false, l, slotJ s)) := by
  rw [← grid_slotJ fun l s => Φ (false, l, s), bigSep_univ_prod, bigSep_univ_eq_bigSepL [true, false] (by decide) (by decide)]
  rfl

/-- The things of every device and index, moved among the devices by a permutation for each index. -/
theorem deal {I : Type} [Fintype I] (e : I → Dev nD ≃ Dev nD) (Φ : Dev nD → I → sProp 𝕄) :
    (bigSep Finset.univ fun c : Dev nD => bigSep Finset.univ fun i : I => Φ c i) = bigSep Finset.univ fun c : Dev nD => bigSep Finset.univ fun i : I => Φ (e i c) i := by
  have h := bigSep_univ_equiv (⟨fun p => (e p.2 p.1, p.2), fun p => ((e p.2).symm p.1, p.2), fun p => Prod.ext ((e p.2).symm_apply_apply p.1) rfl,
    fun p => Prod.ext ((e p.2).apply_symm_apply p.1) rfl⟩ : Dev nD × I ≃ Dev nD × I) fun p => Φ p.1 p.2
  rw [bigSep_univ_prod, bigSep_univ_prod] at h
  exact h

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The cells and the tokens minted -/

theorem csem_injective : Function.Injective csem := by decide
theorem kcell_injective : Function.Injective kcell := by
  rintro ⟨c, k⟩ ⟨c', k'⟩ h
  have h1 : c = c' := congrArg (fun g : GSem nD τ sig => g.1.1) h
  have h2 : csem k = csem k' := congrArg Prod.snd h
  exact Prod.ext h1 (csem_injective h2)
def exCells : Finset (GSem nD τ sig) := Finset.univ.map ⟨kcell, kcell_injective⟩

/-- A device's duties: the three signals of its barrier semaphore, the one of each of its transfer semaphores. -/
abbrev TK : Type := Fin 3 ⊕ (Bool × Fin 3 × Fin 3)
abbrev tokK : TK → CK × Fin 3
  | .inl d => (.inl (), d)
  | .inr x => (.inr x, 0)
theorem tokK_injective : Function.Injective tokK := by decide
abbrev tokOf (cj : Dev nD × TK) : GSem nD τ sig × ℕ × Fin 3 := (kcell (cj.1, (tokK cj.2).1), 0, (tokK cj.2).2)
theorem tokOf_injective : Function.Injective tokOf := by
  rintro ⟨c, j⟩ ⟨c', j'⟩ h
  have h1 := kcell_injective (congrArg Prod.fst h)
  have h2 : (tokK j).2 = (tokK j').2 := congrArg (fun x : GSem nD τ sig × ℕ × Fin 3 => x.2.2) h
  exact Prod.ext (congrArg (fun ck : Dev nD × CK => ck.1) h1) (tokK_injective (Prod.ext (congrArg (fun ck : Dev nD × CK => ck.2) h1) h2))
def exToks : Finset (GSem nD τ sig × ℕ × Fin 3) := Finset.univ.map ⟨tokOf, tokOf_injective⟩

def u₀ : UU := (initOf (Pipeline.cells cfgs cellOf_inj) (Pipeline.launchToks cfgs cellOf_inj), (initOf exCells exToks, 1))

/-- The tokens of a device's own duties. -/
def toks (c : Dev nD) : sProp 𝕄 := bigSep Finset.univ fun j : TK => dutyTok ER (tokOf (c, j)).1 (tokOf (c, j)).2.1 (tokOf (c, j)).2.2
/-- What each device is dealt at first. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem tileSems_eq (c : Dev nD) : (bigSep Finset.univ fun x : Bool × Fin 6 => semVal (c, .dma (tileS x)) 0 : sProp 𝕄) = tileSems c := by
  have h := bigSep_univ_eq_bigSepL (M := 𝕄) [((false, 0) : Bool × Fin 6), (false, 1), (false, 2), (false, 3), (false, 4), (false, 5), (true, 0), (true, 1), (true, 2), (true, 3), (true, 4), (true, 5)]
    (by decide) (by decide) fun x => semVal (c, .dma (tileS x)) 0
  exact h
/-- The kernel's own semaphores: the tiles', the exchange's transfers'. -/
theorem ownSems0_eq (c : Dev nD) : (Pipeline.ownSems0 (Ix := Bool) (Name := ℕ) (U := UU) (Lvl := ℕ) (Val := Elt F) (τ := τ) osem c : sProp 𝕄)
    = iprop(tileSems c ∗ bigSep Finset.univ fun x : Bool × Fin 3 × Fin 3 => semVal (kcell (c, .inr x)) 0) := by
  unfold Pipeline.ownSems0
  rw [bigSep_univ_sum, ← tileSems_eq]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem bigSep_CK (Φ : CK → sProp 𝕄) : bigSep Finset.univ Φ = iprop(Φ (.inl ()) ∗ bigSep Finset.univ fun x => Φ (.inr x)) := by
  rw [bigSep_univ_sum, show (Finset.univ : Finset Unit) = {()} from rfl, bigSep_singleton]; rfl

theorem zeros_eq (c : Dev nD) : (zeros c : sProp 𝕄) = iprop(semVal (barCell c) 0 ∗ bigSep Finset.univ fun x : Bool × Fin 3 × Fin 3 => semVal (kcell (c, .inr x)) 0) := by
  rw [xs_eq, ← grid_sep, grid_chain]; rfl

theorem core_alloc (c : Dev nD) :
    iprop(Pipeline.ownSems0 (Ix := Bool) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ tileSems c) := by
  unfold G
  rw [ownSems0_eq, unscopedSems0_eq]
  iintro ⟨⟨Htile, Hos⟩, Hus, Hst, Hat, Htok⟩
  ihave Hv := (Entails.of_eq (bigSep_CK fun k => semVal (kcell (c, k)) 0).symm) $$ [Hos Hus]
  · isplitl [Hus] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The tokens dealt -/

/-- The tokens of the duties a device pays. -/
def payToks (c : Dev nD) : sProp 𝕄 :=
  iprop((bigSep Finset.univ fun d : Fin 3 => dutyTok ER (barCell (srcD d c)) 0 d) ∗ grid (ghostOut c))
/-- Its positions at its own cells, and those tokens. -/
def linear (c : Dev nD) : sProp 𝕄 :=
  iprop((atPos ER (barCell c) 0 ∅ 0 ∗ grid (fun l s => atPos ER (recvCell c l s) 0 ∅ 0) ∗ grid (fun l s => atPos ER (sendCell c l (slotJ s)) 0 ∅ 0)) ∗ payToks c)
/-- What each device has after the records are shared. -/
def G' (c : Dev nD) : sProp 𝕄 := iprop(∃ K, records m K ∗ linear c ∗ tileSems c)

theorem toks_around : (bigSep Finset.univ fun c : Dev nD => (toks c : sProp 𝕄)) = bigSep Finset.univ fun c : Dev nD => payToks c := by
  have h (c : Dev nD) : (toks c : sProp 𝕄) = iprop((bigSep Finset.univ fun d : Fin 3 => dutyTok ER (barCell c) 0 d)
      ∗ grid (fun l s => dutyTok ER (recvCell c l s) 0 0) ∗ grid fun l s => dutyTok ER (sendCell c l (slotJ s)) 0 0) := by
    unfold toks; rw [bigSep_univ_sum, xs_eq]; rfl
  have h' (c : Dev nD) : (payToks c : sProp 𝕄) = iprop((bigSep Finset.univ fun d : Fin 3 => dutyTok ER (barCell (srcD d c)) 0 d)
      ∗ grid (fun l s => dutyTok ER (sendCell c l (slotJ s)) 0 0) ∗ grid fun l s => dutyTok ER (recvCell (dstD s c) l s) 0 0) := by
    unfold payToks; rw [← grid_sep]; rfl
  rw [bigSep_congr fun c _ => h c, bigSep_congr fun c _ => h' c, bigSep_sep', bigSep_sep', bigSep_sep', bigSep_sep',
    deal (fun d => (turn d).symm) fun c d => (dutyTok ER (barCell c) 0 d : sProp 𝕄),
    show (bigSep Finset.univ fun c : Dev nD => grid fun l s => (dutyTok ER (recvCell c l s) 0 0 : sProp 𝕄)) = bigSep Finset.univ fun c : Dev nD => grid fun l s => dutyTok ER (recvCell (dstD s c) l s) 0 0 from
      deal (fun x : Fin 3 × Fin 3 => turn x.2) fun c x => (dutyTok ER (recvCell c x.1 x.2) 0 0 : sProp 𝕄)]
  exact congrArg (fun P => iprop(_ ∗ P)) (BI.equiv_iff.mp ⟨BI.sep_comm, BI.sep_comm⟩)

theorem linear_intro (c : Dev nD) : iprop((bigSep Finset.univ fun k : CK => (atPos ER (kcell (c, k)) 0 ∅ 0 : sProp 𝕄)) ∗ payToks c) = linear c := by
  unfold linear; rw [bigSep_CK, xs_eq]

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ tileSems c) : sProp 𝕄)
      ⊢ bigSep Finset.univ (G' m) := by
  rw [bigSep_sep', bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok, Htile⟩
  ihave HK := (BI.bigSep_exists_pi Finset.univ (fun (ck : Dev nD × CK) (κ : ℕ) => (cellInv ER (Rd m) κ (kcell ck) : sProp 𝕄))) $$ HI
  icases HK with ⟨%K, #HI⟩
  iapply (bigSep_with_persistent (R := records m K) (Φ := fun c => iprop(((bigSep Finset.univ fun k : CK => atPos ER (kcell (c, k)) 0 ∅ 0) ∗ payToks c) ∗ tileSems c))
    fun c _ => show iprop(records m K ∗ _) ⊢ G' m c from by
      rw [linear_intro]; unfold G'
      iintro ⟨H, H'⟩
      iexists K
      isplitl [H] <;> iassumption)
  isplitr
  · unfold records; rw [bigSep_sep']
    isplitl; · iexact HI
    iexact HR
  · rw [bigSep_sep', bigSep_sep']
    isplitl [Hat Htok]
    · isplitl [Hat] <;> iassumption
    iexact Htile

theorem glob : (bigSep Finset.univ fun c => iprop(Pipeline.ownSems0 (Ix := Bool) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem launch_at (g : GSem nD τ sig) (n : ℕ) (h : ∑ d : Dev nD, oweN d g 12 = n) :
    tallyOn g (launchCredit (Pipeline.owing O₀) 0 g) = (tallyAt g true n : CellTallies nD τ sig Bool) := by
  unfold tallyAt
  refine congrArg _ (Finsupp.ext fun u => ?_)
  rw [Pipeline.launchCredit_owing, Finset.sum_congr rfl fun d _ => owe_apply d g u 12]
  cases u
  · rw [Finset.sum_congr rfl fun d _ => if_neg (by decide), Finset.sum_const_zero, Finsupp.single_eq_of_ne (by decide)]
  · rw [Finset.sum_congr rfl fun d _ => if_pos rfl, h, Finsupp.single_eq_same]

theorem owed_bar : ∀ c : Dev nD, ∑ d : Dev nD, oweN d (barCell c) 12 = 3 := by decide +kernel
theorem owed_recv : ∀ (c : Dev nD) (x : Fin 3 × Fin 3), ∑ d : Dev nD, oweN d (recvCell c x.1 x.2) 12 = amtL x.1 := by decide +kernel

abbrev waitedOn : Unit ⊕ (Fin 3 × Fin 3) → SemLoc sig
  | .inl _ => .reg barS
  | .inr x => .dma (recvS x.1 x.2)
theorem waitedOn_injective : Function.Injective waitedOn := by decide

theorem creds (c : Dev nD) : (Pipeline.launchCred O₀ c : sProp 𝕄)
    ⊢ iprop(cred (tallyAt (barCell c) true 3) ∗ grid fun l s => cred (tallyAt (recvCell c l s) true (amtL l))) := by
  unfold Pipeline.launchCred
  refine BIBase.Entails.trans (bigSep_subset (Finset.subset_univ (Finset.univ.map ⟨waitedOn, waitedOn_injective⟩))) ?_
  rw [bigSep_map, bigSep_univ_sum, show (Finset.univ : Finset Unit) = {()} from rfl, bigSep_singleton]
  refine Entails.of_eq ?_
  show iprop(cred (tallyOn (barCell c) (launchCredit (Pipeline.owing O₀) 0 (barCell c))) ∗ bigSep Finset.univ fun x : Fin 3 × Fin 3 => cred (tallyOn (recvCell c x.1 x.2) (launchCredit (Pipeline.owing O₀) 0 (recvCell c x.1 x.2)))) = _
  rw [launch_at (barCell c) 3 (owed_bar c), bigSep_congr (s := Finset.univ) fun (x : Fin 3 × Fin 3) _ => congrArg (fun T : CellTallies nD τ sig Bool => (cred T : sProp 𝕄)) (launch_at (recvCell c x.1 x.2) (amtL x.1) (owed_recv c x))]
  rfl

/-- All a device brings to the exchange. -/
theorem ghosts_intro (c : Dev nD) : iprop(landing c ∗ linear c ∗ Pipeline.launchCred O₀ c) ⊢ (ghosts c : sProp 𝕄) := by
  have hg : grid (ghostX (F := F) c) = iprop(grid (ghostOut c) ∗ (grid (fun l s => atPos ER (recvCell c l s) 0 ∅ 0) ∗ grid fun l s => cred (tallyAt (recvCell c l s) true (amtL l)))
      ∗ grid fun l s => atPos ER (sendCell c l (slotJ s)) 0 ∅ 0) := by
    rw [← grid_sep, ← grid_sep, ← grid_sep]; rfl
  have h : (ghosts c : sProp 𝕄) = iprop(landing c ∗ (bigSep Finset.univ fun d : Fin 3 => dutyTok ER (barCell (srcD d c)) 0 d) ∗ ghostBar c ∗ grid (ghostX c)) := by
    rw [grid_chain, bigSep_fin3]; rfl
  rw [h, hg]
  unfold linear payToks ghostBar
  iintro ⟨Hl, ⟨⟨Hb, Hr, Hs⟩, Ht, Ho⟩, Hc⟩
  ihave Hc := (creds (F := F) c) $$ Hc
  icases Hc with ⟨Hcb, Hcr⟩
  isplitl [Hl]; · iexact Hl
  isplitl [Ht]; · iexact Ht
  isplitl [Hb Hcb]
  · isplitl [Hb] <;> iassumption
  isplitl [Ho]; · iexact Ho
  isplitl [Hr Hcr]
  · isplitl [Hr] <;> iassumption
  iexact Hs

end Cert.KernelIdeal.Hand

end
-- ==== Proof.Body.lean ====
/-
# The body of the kernel

One device's body, run once at a symbolic device, from what it owns at its start to what it leaves.
-/
module

public import proofs.«01_k».proof.Proof.Local

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ) (K : Dev nD × CK → ℕ)

set_option maxRecDepth 100000 in
set_option maxHeartbeats 4000000 in
/-- The body run once at device `c`, layer by layer: each layer's accumulation read off the stores, the three transfers out,
    the three landings, the three transfers' ends. -/
theorem body_wp (c : Dev nD) (W : Waits sig Bool) (fo : Buf (Elt F) ((c : Thread nD τ).loc cc0_stg1_0)) (Kt : PUnit → sProp 𝕄) :
    iprop(records m K ∗ levAts L lv
      ∗ ((Memref.whole cc0_stg0_0).view.loc (c : Thread nD τ) ↦{fullShare} (xstg m c : Buf (Elt F) ((c : Thread nD τ).loc cc0_stg0_0)))
      ∗ ((Memref.whole cc0_stg1_0).view.loc (c : Thread nD τ) ↦{fullShare} fo)
      ∗ localRes m c ∗ ghosts c ∗ owes (c : Thread nD τ) (O₀ c) W ∗ (bodyOut m c -∗ Kt ⟨⟩))
      ⊢ wp frame (wpE (defs₀ (F := F)) 𝒱₀ (c : Thread nD τ) none) Set.univ (bodyAt0 (F := F) t0_0) Kt := by
  unfold bodyAt0
  rw [cc0_body_eq_skeleton]; unfold cc0_body_skel
  rw [k0_part46_eq_skeleton]; unfold k0_part46_skel
  unfold localRes bufE winE woutE winToks woutToks tileSems tok ghosts ghostX
  iintro ⟨#HR, #HL, Hx, Hout, ⟨⟨%fHxb, Hxb⟩, ⟨%fHacc, Hacc⟩, ⟨%fHs, Hs⟩, ⟨%fHw0, Hw0⟩, ⟨%fHw1, Hw1⟩, ⟨%fHw2, Hw2⟩, ⟨%fHw3, Hw3⟩, ⟨%fHw4, Hw4⟩, ⟨%fHw5, Hw5⟩, ⟨%fHo0, Ho0⟩, ⟨%fHo1, Ho1⟩, ⟨%fHo2, Ho2⟩, ⟨%fHo3, Ho3⟩, ⟨%fHo4, Ho4⟩, ⟨%fHo5, Ho5⟩, ⟨A1, A2, A3, A4, A5, A6⟩, ⟨B1, B2, B3, B4, B5, B6⟩, ⟨C1, C2, C3, C4, C5, C6⟩, ⟨D1, D2, D3, D4, D5, D6⟩, ⟨E1, E2, E3, E4, E5, E6⟩, ⟨G1, G2, G3, G4, G5, G6⟩, ⟨S1, S2, S3, S4, S5, S6, T1, T2, T3, T4, T5, T6⟩⟩,
    ⟨⟨Hsl0, Hsl1, Hsl2⟩, ⟨Hb0, Hb1, Hb2⟩, Hgb, ⟨⟨Go00, Gi00, Gs00⟩, ⟨Go01, Gi01, Gs01⟩, ⟨Go02, Gi02, Gs02⟩⟩, ⟨⟨Go10, Gi10, Gs10⟩, ⟨Go11, Gi11, Gs11⟩, ⟨Go12, Gi12, Gs12⟩⟩, ⟨⟨Go20, Gi20, Gs20⟩, ⟨Go21, Gi21, Gs21⟩, ⟨Go22, Gi22, Gs22⟩⟩⟩, HO, Hk⟩
  ihave #HM12 := (mayWaits_local (F := F) c 12 (by decide)) $$ HL
  sl_exec
  iapply (step_signal m K c _ 0 (dev1_eq c) 11 rfl rfl) $$ HR Hsl0 Hb0 HO
  iintro HO
  sl_exec
  iapply (step_signal m K c _ 1 (dev2_eq c) 10 rfl rfl) $$ HR Hsl1 Hb1 HO
  iintro HO
  sl_exec
  iapply (step_signal m K c _ 2 (dev3_eq c) 9 rfl rfl) $$ HR Hsl2 Hb2 HO
  iintro HO
  sl_exec
  iapply (step_barWait m K c) $$ HR HL Hgb HO
  unfold slotsOf
  iintro ⟨HO, Hzb, ⟨⟨%f00, Ht00⟩, ⟨%f10, Ht10⟩, ⟨%f20, Ht20⟩⟩, ⟨⟨%f01, Ht01⟩, ⟨%f11, Ht11⟩, ⟨%f21, Ht21⟩⟩, ⟨⟨%f02, Ht02⟩, ⟨%f12, Ht12⟩, ⟨%f22, Ht22⟩⟩⟩
  sl_exec
  have hx : xM.view.readAt (Elt F) (Rect.unit (s := S64x2048) ![0, 0] S64x2048.size inb_S64x2048_S64x2048_0_0).toLoadRect (xstg m c) = inV m 0 c :=
    Memref.readAt_unit_zero (Elt F) cc0_stg0_0 hz _ _
  have e0 : body_wp.sl.v341 m c = accV m 0 c :=
    acc_next 1 hx rfl rfl <| acc_next 0 hx rfl rfl <| acc_next 5 hx rfl rfl <| acc_next 4 hx rfl rfl <|
    acc_next 3 hx rfl rfl <| acc_next 2 hx rfl rfl <| acc_next 1 hx rfl rfl <| acc_first 0 ((shapeCast_same _ _).trans hx) rfl rfl
  ihave Hacc := (pts_eq (writes_of_readCov cc0_scratch1 _ _ _ _ _ e0)) $$ Hacc
  ihave Hs := (pts_eq (g := sendV m 0 c) ((writes_whole_full cc0_scratch2 _ _ _ _ _).trans (pay_send e0))) $$ Hs
  ihave Hs := (sPts_split c (sendV m 0 c)).1 $$ Hs
  icases Hs with ⟨Hs2, Hs1, Hs0⟩
  iapply (step_send_ar m K c 0 0 rfl 0 rfl 2 _ (dev4_eq c) 8 rfl rfl rfl rfl rfl f02) $$ HR Hs2 Ht02 Go02 HO
  iintro ⟨Gc02, HO⟩
  sl_exec
  iapply (step_send_ar m K c 0 0 rfl 0 rfl 1 _ (dev5_eq c) 7 rfl rfl rfl rfl rfl f01) $$ HR Hs1 Ht01 Go01 HO
  iintro ⟨Gc01, HO⟩
  sl_exec
  iapply (step_send_ar m K c 0 0 rfl 0 rfl 0 _ (dev6_eq c) 6 rfl rfl rfl rfl rfl f00) $$ HR Hs0 Ht00 Go00 HO
  iintro ⟨Gc00, HO⟩
  sl_exec
  iapply (step_recv m K c 0 2 6 (lvl_0 c) (by exact wpE_waitDma2_eq 𝒱₀ (c : Thread nD τ) none Set.univ)) $$ HR HL Gi02 HO
  iintro ⟨HO, Zr02, Hr02⟩
  sl_exec
  iapply (step_recv m K c 0 1 6 (lvl_0 c) (by exact wpE_waitDma2_eq 𝒱₀ (c : Thread nD τ) none Set.univ)) $$ HR HL Gi01 HO
  iintro ⟨HO, Zr01, Hr01⟩
  sl_exec
  iapply (step_recv m K c 0 0 6 (lvl_0 c) (by exact wpE_waitDma2_eq 𝒱₀ (c : Thread nD τ) none Set.univ)) $$ HR HL Gi00 HO
  iintro ⟨HO, Zr00, Hr00⟩
  ihave Hr02 := (recv_ar m c 0 0 rfl 2).1 $$ Hr02
  ihave Hr01 := (recv_ar m c 0 0 rfl 1).1 $$ Hr01
  ihave Hr00 := (recv_ar m c 0 0 rfl 0).1 $$ Hr00
  ihave #HM6 := (mayWaits_local (F := F) c 6 (by decide)) $$ HL
  sl_exec
  iapply (step_sent m K c 0 2 6 (by decide) (by exact wpE_waitDma2_eq 𝒱₀ (c : Thread nD τ) none Set.univ)) $$ HR HL Gs02 Gc02 HO
  iintro ⟨HO, Zs02, Hs2⟩
  sl_exec
  iapply (step_sent m K c 0 1 6 (by decide) (by exact wpE_waitDma2_eq 𝒱₀ (c : Thread nD τ) none Set.univ)) $$ HR HL Gs01 Gc01 HO
  iintro ⟨HO, Zs01, Hs1⟩
  sl_exec
  iapply (step_sent m K c 0 0 6 (by decide) (by exact wpE_waitDma2_eq 𝒱₀ (c : Thread nD τ) none Set.univ)) $$ HR HL Gs00 Gc00 HO
  iintro ⟨HO, Zs00, Hs0⟩
  ihave Hs2 := (sent_ar m c 0 0 rfl 0 rfl (slotJ 2)) $$ Hs2
  ihave Hs1 := (sent_ar m c 0 0 rfl 0 rfl (slotJ 1)) $$ Hs1
  ihave Hs0 := (sent_ar m c 0 0 rfl 0 rfl (slotJ 0)) $$ Hs0
  ihave Hs := (sPts_split c (sendV m 0 c)).2 $$ [Hs2 Hs1 Hs0]
  · isplitl [Hs2]; · iexact Hs2
    isplitl [Hs1]; · iexact Hs1
    iexact Hs0
  have ha0 : accM.view.readAt (Elt F) (Rect.unit (s := S64x2048) ![0, 0] S64x2048.size inb_S64x2048_S64x2048_0_0).toLoadRect (accV m 0 c) = accV m 0 c :=
    Memref.readAt_unit_zero (Elt F) cc0_scratch1 hz _ _
  ihave Hxb := (pts_eq (g := inV m 1 c) ((writes_whole_full cc0_scratch0 _ _ _ _ _).trans
    ((pay_merge ha0 (ar_read 0 0 (View.read_rep _ _)) (ar_read 0 1 (View.read_rep _ _)) (ar_read 0 2 (View.read_rep _ _))).trans
      (inV_succ m 0 c).symm))) $$ Hxb
  sl_exec

  have hx1 : xbM.view.readAt (Elt F) (Rect.unit (s := S64x2048) ![0, 0] S64x2048.size inb_S64x2048_S64x2048_0_0).toLoadRect (inV m 1 c) = inV m 1 c :=
    Memref.readAt_unit_zero (Elt F) cc0_scratch0 hz _ _
  have e1 : body_wp.sl.v765 m c = accV m 1 c :=
    acc_next' 3 hx1 rfl rfl <| acc_next' 2 hx1 rfl rfl <| acc_next' 1 hx1 rfl rfl <| acc_next' 0 hx1 rfl rfl <|
    acc_next' 5 hx1 rfl rfl <| acc_next' 4 hx1 rfl rfl <| acc_next' 3 hx1 rfl rfl <| acc_first' 2 hx1 rfl rfl
  ihave Hacc := (pts_eq (writes_of_readCov cc0_scratch1 _ _ _ _ _ e1)) $$ Hacc
  ihave Hs := (pts_eq (g := sendV m 1 c) ((writes_whole_full cc0_scratch2 _ _ _ _ _).trans (pay_send e1))) $$ Hs
  ihave Hs := (sPts_split c (sendV m 1 c)).1 $$ Hs
  icases Hs with ⟨Hs2, Hs1, Hs0⟩
  iapply (step_send_ar m K c 1 1 rfl 1 rfl 2 _ (dev7_eq c) 5 rfl rfl rfl rfl rfl f12) $$ HR Hs2 Ht12 Go12 HO
  iintro ⟨Gc12, HO⟩
  sl_exec
  iapply (step_send_ar m K c 1 1 rfl 1 rfl 1 _ (dev8_eq c) 4 rfl rfl rfl rfl rfl f11) $$ HR Hs1 Ht11 Go11 HO
  iintro ⟨Gc11, HO⟩
  sl_exec
  iapply (step_send_ar m K c 1 1 rfl 1 rfl 0 _ (dev9_eq c) 3 rfl rfl rfl rfl rfl f10) $$ HR Hs0 Ht10 Go10 HO
  iintro ⟨Gc10, HO⟩
  sl_exec
  iapply (step_recv m K c 1 2 3 (lvl_1 c) (by exact wpE_waitDma2_eq 𝒱₀ (c : Thread nD τ) none Set.univ)) $$ HR HL Gi12 HO
  iintro ⟨HO, Zr12, Hr12⟩
  sl_exec
  iapply (step_recv m K c 1 1 3 (lvl_1 c) (by exact wpE_waitDma2_eq 𝒱₀ (c : Thread nD τ) none Set.univ)) $$ HR HL Gi11 HO
  iintro ⟨HO, Zr11, Hr11⟩
  sl_exec
  iapply (step_recv m K c 1 0 3 (lvl_1 c) (by exact wpE_waitDma2_eq 𝒱₀ (c : Thread nD τ) none Set.univ)) $$ HR HL Gi10 HO
  iintro ⟨HO, Zr10, Hr10⟩
  ihave Hr12 := (recv_ar m c 1 1 rfl 2).1 $$ Hr12
  ihave Hr11 := (recv_ar m c 1 1 rfl 1).1 $$ Hr11
  ihave Hr10 := (recv_ar m c 1 1 rfl 0).1 $$ Hr10
  ihave #HM3 := (mayWaits_local (F := F) c 3 (by decide)) $$ HL
  sl_exec
  iapply (step_sent m K c 1 2 3 (by decide) (by exact wpE_waitDma2_eq 𝒱₀ (c : Thread nD τ) none Set.univ)) $$ HR HL Gs12 Gc12 HO
  iintro ⟨HO, Zs12, Hs2⟩
  sl_exec
  iapply (step_sent m K c 1 1 3 (by decide) (by exact wpE_waitDma2_eq 𝒱₀ (c : Thread nD τ) none Set.univ)) $$ HR HL Gs11 Gc11 HO
  iintro ⟨HO, Zs11, Hs1⟩
  sl_exec
  iapply (step_sent m K c 1 0 3 (by decide) (by exact wpE_waitDma2_eq 𝒱₀ (c : Thread nD τ) none Set.univ)) $$ HR HL Gs10 Gc10 HO
  iintro ⟨HO, Zs10, Hs0⟩
  ihave Hs2 := (sent_ar m c 1 1 rfl 1 rfl (slotJ 2)) $$ Hs2
  ihave Hs1 := (sent_ar m c 1 1 rfl 1 rfl (slotJ 1)) $$ Hs1
  ihave Hs0 := (sent_ar m c 1 1 rfl 1 rfl (slotJ 0)) $$ Hs0
  ihave Hs := (sPts_split c (sendV m 1 c)).2 $$ [Hs2 Hs1 Hs0]
  · isplitl [Hs2]; · iexact Hs2
    isplitl [Hs1]; · iexact Hs1
    iexact Hs0
  have ha1 : accM.view.readAt (Elt F) (Rect.unit (s := S64x2048) ![0, 0] S64x2048.size inb_S64x2048_S64x2048_0_0).toLoadRect (accV m 1 c) = accV m 1 c :=
    Memref.readAt_unit_zero (Elt F) cc0_scratch1 hz _ _
  ihave Hxb := (pts_eq (g := inV m 2 c) ((writes_whole_full cc0_scratch0 _ _ _ _ _).trans
    ((pay_merge ha1 (ar_read 1 0 (View.read_rep _ _)) (ar_read 1 1 (View.read_rep _ _)) (ar_read 1 2 (View.read_rep _ _))).trans
      (inV_succ m 1 c).symm))) $$ Hxb
  sl_exec

  have hx2 : xbM.view.readAt (Elt F) (Rect.unit (s := S64x2048) ![0, 0] S64x2048.size inb_S64x2048_S64x2048_0_0).toLoadRect (inV m 2 c) = inV m 2 c :=
    Memref.readAt_unit_zero (Elt F) cc0_scratch0 hz _ _
  have e2 : body_wp.sl.v1086 m c = accV m 2 c :=
    acc_next' 5 hx2 rfl rfl <| acc_next' 4 hx2 rfl rfl <| acc_next' 3 hx2 rfl rfl <| acc_next' 2 hx2 rfl rfl <|
    acc_next' 1 hx2 rfl rfl <| acc_next' 0 hx2 rfl rfl <| acc_next' 5 hx2 rfl rfl <| acc_first' 4 hx2 rfl rfl
  ihave Hacc := (pts_eq (writes_of_readCov cc0_scratch1 _ _ _ _ _ e2)) $$ Hacc
  ihave Hs := (pts_eq (g := sendV m 2 c) ((writes_whole_full cc0_scratch2 _ _ _ _ _).trans (pay_send e2))) $$ Hs
  ihave Hs := (sPts_split c (sendV m 2 c)).1 $$ Hs
  icases Hs with ⟨Hs2, Hs1, Hs0⟩
  ihave Hs2 := (sRow_split c (dstD 2 c) (shareOf (slotJ 2)) (sendV m 2 c)).1 $$ Hs2
  icases Hs2 with ⟨Hs2, Hq2⟩
  iapply (step_send_rs m K c 2 _ (dev10_eq c) 2 rfl rfl (sRow_of (dstD 2 c) (off1_eq c 2) _) rfl rfl rfl f22) $$ HR Hs2 Ht22 Go22 HO
  iintro ⟨Gc22, HO⟩
  sl_exec
  ihave Hs1 := (sRow_split c (dstD 1 c) (shareOf (slotJ 1)) (sendV m 2 c)).1 $$ Hs1
  icases Hs1 with ⟨Hs1, Hq1⟩
  iapply (step_send_rs m K c 1 _ (dev11_eq c) 1 rfl rfl (sRow_of (dstD 1 c) (off1_eq c 1) _) rfl rfl rfl f21) $$ HR Hs1 Ht21 Go21 HO
  iintro ⟨Gc21, HO⟩
  sl_exec
  ihave Hs0 := (sRow_split c (dstD 0 c) (shareOf (slotJ 0)) (sendV m 2 c)).1 $$ Hs0
  icases Hs0 with ⟨Hs0, Hq0⟩
  iapply (step_send_rs m K c 0 _ (dev12_eq c) 0 rfl rfl (sRow_of (dstD 0 c) (off1_eq c 0) _) rfl rfl rfl f20) $$ HR Hs0 Ht20 Go20 HO
  iintro ⟨Gc20, HO⟩
  sl_exec
  iapply (step_recv m K c 2 2 0 (fun i hi => absurd hi (Nat.not_lt_zero i)) (by exact wpE_waitDma2_eq 𝒱₀ (c : Thread nD τ) none Set.univ)) $$ HR HL Gi22 HO
  iintro ⟨HO, Zr22, Hr22⟩
  sl_exec
  iapply (step_recv m K c 2 1 0 (fun i hi => absurd hi (Nat.not_lt_zero i)) (by exact wpE_waitDma2_eq 𝒱₀ (c : Thread nD τ) none Set.univ)) $$ HR HL Gi21 HO
  iintro ⟨HO, Zr21, Hr21⟩
  sl_exec
  iapply (step_recv m K c 2 0 0 (fun i hi => absurd hi (Nat.not_lt_zero i)) (by exact wpE_waitDma2_eq 𝒱₀ (c : Thread nD τ) none Set.univ)) $$ HR HL Gi20 HO
  iintro ⟨HO, Zr20, Hr20⟩
  ihave Hr22 := (recv_rs m c 2).1 $$ Hr22
  ihave Hr21 := (recv_rs m c 1).1 $$ Hr21
  ihave Hr20 := (recv_rs m c 0).1 $$ Hr20
  sl_exec
  iapply (step_sent m K c 2 2 0 (by decide) (by exact wpE_waitDma2_eq 𝒱₀ (c : Thread nD τ) none Set.univ)) $$ HR HL Gs22 Gc22 HO
  iintro ⟨HO, Zs22, Hs2⟩
  sl_exec
  iapply (step_sent m K c 2 1 0 (by decide) (by exact wpE_waitDma2_eq 𝒱₀ (c : Thread nD τ) none Set.univ)) $$ HR HL Gs21 Gc21 HO
  iintro ⟨HO, Zs21, Hs1⟩
  sl_exec
  iapply (step_sent m K c 2 0 0 (by decide) (by exact wpE_waitDma2_eq 𝒱₀ (c : Thread nD τ) none Set.univ)) $$ HR HL Gs20 Gc20 HO
  iintro ⟨HO, Zs20, Hs0⟩
  ihave Hs2 := (sent_rs m c 2) $$ Hs2
  ihave Hs2 := (sRow_split c (dstD 2 c) (shareOf (slotJ 2)) (sendV m 2 c)).2 $$ [Hs2 Hq2]
  · isplitl [Hs2] <;> iassumption
  ihave Hs1 := (sent_rs m c 1) $$ Hs1
  ihave Hs1 := (sRow_split c (dstD 1 c) (shareOf (slotJ 1)) (sendV m 2 c)).2 $$ [Hs1 Hq1]
  · isplitl [Hs1] <;> iassumption
  ihave Hs0 := (sent_rs m c 0) $$ Hs0
  ihave Hs0 := (sRow_split c (dstD 0 c) (shareOf (slotJ 0)) (sendV m 2 c)).2 $$ [Hs0 Hq0]
  · isplitl [Hs0] <;> iassumption
  ihave Hs := (sPts_split c (sendV m 2 c)).2 $$ [Hs2 Hs1 Hs0]
  · isplitl [Hs2]; · iexact Hs2
    isplitl [Hs1]; · iexact Hs1
    iexact Hs0
  ihave Hout := (pts_eq (g := outV m c) ((writes_whole_full cc0_stg1_0 _ _ _ _ _).trans
    (pay_out (rowsF_of c (k0_off2_eq c) _ _) (rs_read 0 (View.read_rep _ _)) (rs_read 1 (View.read_rep _ _)) (rs_read 2 (View.read_rep _ _))))) $$ Hout
  sl_exec
  rw [wp_ret]
  imodintro
  iapply Hk
  unfold bodyOut localRes bufE winE woutE winToks woutToks tileSems tok zeros zeroX slotsOf arPts rsPts
  isplitl [Hx]; · iexact Hx
  isplitl [Hout]; · iexact Hout
  isplitl [Hxb Hacc Hs Hw0 Hw1 Hw2 Hw3 Hw4 Hw5 Ho0 Ho1 Ho2 Ho3 Ho4 Ho5 A1 A2 A3 A4 A5 A6 B1 B2 B3 B4 B5 B6 C1 C2 C3 C4 C5 C6 D1 D2 D3 D4 D5 D6 E1 E2 E3 E4 E5 E6 G1 G2 G3 G4 G5 G6 S1 S2 S3 S4 S5 S6 T1 T2 T3 T4 T5 T6]
  · isplitl [Hxb]; · iexists _; iexact Hxb
    isplitl [Hacc]; · iexists _; iexact Hacc
    isplitl [Hs]; · iexists _; iexact Hs
    isplitl [Hw0]; · iexists _; iexact Hw0
    isplitl [Hw1]; · iexists _; iexact Hw1
    isplitl [Hw2]; · iexists _; iexact Hw2
    isplitl [Hw3]; · iexists _; iexact Hw3
    isplitl [Hw4]; · iexists _; iexact Hw4
    isplitl [Hw5]; · iexists _; iexact Hw5
    isplitl [Ho0]; · iexists _; iexact Ho0
    isplitl [Ho1]; · iexists _; iexact Ho1
    isplitl [Ho2]; · iexists _; iexact Ho2
    isplitl [Ho3]; · iexists _; iexact Ho3
    isplitl [Ho4]; · iexists _; iexact Ho4
    isplitl [Ho5]; · iexists _; iexact Ho5
    isplitl [A1 A2 A3 A4 A5 A6]
    · isplitl [A1]; · iexact A1
      isplitl [A2]; · iexact A2
      isplitl [A3]; · iexact A3
      isplitl [A4]; · iexact A4
      isplitl [A5]; · iexact A5
      iexact A6
    isplitl [B1 B2 B3 B4 B5 B6]
    · isplitl [B1]; · iexact B1
      isplitl [B2]; · iexact B2
      isplitl [B3]; · iexact B3
      isplitl [B4]; · iexact B4
      isplitl [B5]; · iexact B5
      iexact B6
    isplitl [C1 C2 C3 C4 C5 C6]
    · isplitl [C1]; · iexact C1
      isplitl [C2]; · iexact C2
      isplitl [C3]; · iexact C3
      isplitl [C4]; · iexact C4
      isplitl [C5]; · iexact C5
      iexact C6
    isplitl [D1 D2 D3 D4 D5 D6]
    · isplitl [D1]; · iexact D1
      isplitl [D2]; · iexact D2
      isplitl [D3]; · iexact D3
      isplitl [D4]; · iexact D4
      isplitl [D5]; · iexact D5
      iexact D6
    isplitl [E1 E2 E3 E4 E5 E6]
    · isplitl [E1]; · iexact E1
      isplitl [E2]; · iexact E2
      isplitl [E3]; · iexact E3
      isplitl [E4]; · iexact E4
      isplitl [E5]; · iexact E5
      iexact E6
    isplitl [G1 G2 G3 G4 G5 G6]
    · isplitl [G1]; · iexact G1
      isplitl [G2]; · iexact G2
      isplitl [G3]; · iexact G3
      isplitl [G4]; · iexact G4
      isplitl [G5]; · iexact G5
      iexact G6
    isplitl [S1]; · iexact S1
    isplitl [S2]; · iexact S2
    isplitl [S3]; · iexact S3
    isplitl [S4]; · iexact S4
    isplitl [S5]; · iexact S5
    isplitl [S6]; · iexact S6
    isplitl [T1]; · iexact T1
    isplitl [T2]; · iexact T2
    isplitl [T3]; · iexact T3
    isplitl [T4]; · iexact T4
    isplitl [T5]; · iexact T5
    iexact T6
  isplitl [Hzb Zr00 Zs00 Zr01 Zs01 Zr02 Zs02 Zr10 Zs10 Zr11 Zs11 Zr12 Zs12 Zr20 Zs20 Zr21 Zs21 Zr22 Zs22]
  · isplitl [Hzb]; · iexact Hzb
    isplitl [Zr00 Zs00 Zr01 Zs01 Zr02 Zs02]
    · isplitl [Zr00 Zs00]
      · isplitl [Zr00]; · iexact Zr00
        iexact Zs00
      isplitl [Zr01 Zs01]
      · isplitl [Zr01]; · iexact Zr01
        iexact Zs01
      isplitl [Zr02]; · iexact Zr02
      iexact Zs02
    isplitl [Zr10 Zs10 Zr11 Zs11 Zr12 Zs12]
    · isplitl [Zr10 Zs10]
      · isplitl [Zr10]; · iexact Zr10
        iexact Zs10
      isplitl [Zr11 Zs11]
      · isplitl [Zr11]; · iexact Zr11
        iexact Zs11
      isplitl [Zr12]; · iexact Zr12
      iexact Zs12
    isplitl [Zr20 Zs20]
    · isplitl [Zr20]; · iexact Zr20
      iexact Zs20
    isplitl [Zr21 Zs21]
    · isplitl [Zr21]; · iexact Zr21
      iexact Zs21
    isplitl [Zr22]; · iexact Zr22
    iexact Zs22
  isplitl [Hr00 Hr10 Hr20 Hr01 Hr11 Hr21 Hr02 Hr12 Hr22]
  · isplitl [Hr00 Hr10 Hr20]
    · isplitl [Hr00]; · iexists _; iexact Hr00
      isplitl [Hr10]; · iexists _; iexact Hr10
      iexists _; iexact Hr20
    isplitl [Hr01 Hr11 Hr21]
    · isplitl [Hr01]; · iexists _; iexact Hr01
      isplitl [Hr11]; · iexists _; iexact Hr11
      iexists _; iexact Hr21
    isplitl [Hr02]; · iexists _; iexact Hr02
    isplitl [Hr12]; · iexists _; iexact Hr12
    iexists _; iexact Hr22
  iexists _; iexact HO

end Cert.KernelIdeal.Hand

end
-- ==== Proof.Run.lean ====
/-
# The run

The launch: the exchange's tokens dealt, each device's body run from them, every buffer and semaphore handed back. Every
final state has each device's result at the computed value, its arguments unchanged and every semaphore at zero.
-/
module

public import proofs.«01_k».proof.Proof.Ghost
public import proofs.«01_k».proof.Proof.Body
public import Idealize.ShloMosaic.Lib.Pipeline.CollectiveSegs

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ) (ρ : Dev nD → PrngReg)

def s₀ : MemSt nD τ sig (Elt F) := ⟨m, fun _ => 0, ρ⟩

/-! ## The pipeline's data -/

/-- The six weights' arrays. -/
def wRef : Fin 6 → Ref sig .tc
  | 0 => main_arg1 | 1 => main_arg2 | 2 => main_arg3 | 3 => main_arg4 | 4 => main_arg5 | 5 => main_arg6

/-- The shares of the weights the body reads through, and those kept to read the arrays at the end. -/
def weights (c : Dev nD) : sProp 𝕄 :=
  iprop(winToks m c main_arg1 ∗ woutToks m c main_arg4 ∗ winToks m c main_arg2 ∗ woutToks m c main_arg5 ∗ winToks m c main_arg3 ∗ woutToks m c main_arg6)
def kept (c : Dev nD) : sProp 𝕄 := bigSep Finset.univ fun i : Fin 6 => (((c : Thread nD τ).loc (wRef i)) ↦{shareTokN fullShare 0} m ((c : Thread nD τ).loc (wRef i)))

/-- What a device has once the launch has sorted its resources, before its scratch buffers. -/
def start (c : Dev nD) : sProp 𝕄 :=
  iprop((∃ K, records m K) ∗ levAts L lv ∗ linear c ∗ Pipeline.launchCred O₀ c ∗ tileSems c ∗ weights m c)

def Φ₀ (c : Dev nD) : sProp 𝕄 := iprop((∃ K, records m K) ∗ levAts L lv ∗ localRes m c ∗ ghosts c)
def Φ₁ (c : Dev nD) : sProp 𝕄 := iprop(localRes m c ∗ zeros c ∗ landing c)

def dats (_ : Fin 1) (c : Dev nD) : Dat τ (Elt F) Bool ℕ UU ℕ cfg0 c where
  A w := m ((cfg0.win w).arr.view.loc (c : Thread nD τ))
  after w _ := match w with
    | ⟨0, _⟩ => xstg m c
    | ⟨1, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem owns_whole_eq (c : Dev nD) (b : Ref sig .tc) (X : b.ty.Contents (Elt F)) :
    (owns (Ix := Bool) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def pre (c : Dev nD) : sProp 𝕄 :=
  iprop(Φ₀ m c ∗ (dats m 0 c).owesAt false t0_0.castSucc
    ∗ (∃ d, stg c cc0_stg0_0 ((dats m 0 c).before (0 : Fin 2) t0_0 d)) ∗ (∃ d, stg c cc0_stg1_0 ((dats m 0 c).before (1 : Fin 2) t0_0 d)))
def post (c : Dev nD) : sProp 𝕄 :=
  iprop(Φ₁ m c ∗ (dats m 0 c).owesAt false t0_0.succ ∗ stg c cc0_stg0_0 (xstg m c) ∗ stg c cc0_stg1_0 (outV m c))

theorem sound_body (c : Dev nD) : pre m c ⊢ wp frame (wpE (defs₀ (F := F)) 𝒱₀ (c : Thread nD τ) none) Set.univ (bodyAt0 (F := F) t0_0) fun _ => post m c := by
  unfold pre Φ₀ Dat.owesAt Pipeline.owesWithin
  iintro ⟨⟨⟨%K, #HR⟩, #HL, Hl, Hg⟩, ⟨%W, %hW, HO⟩, ⟨%d0, %g0, %hg0, Hx⟩, ⟨%d1, %g1, %hg1, Hout⟩⟩
  have hx : g0 = xstg m c := by rw [hg0]; unfold Dat.before; rw [if_pos (fetch0_0 t0_0)]; rfl
  subst hx
  iapply (body_wp m K c W g1 fun _ => post m c)
  isplitr; · iexact HR
  isplitr; · iexact HL
  isplitl [Hx]; · iexact Hx
  isplitl [Hout]; · iexact Hout
  isplitl [Hl]; · iexact Hl
  isplitl [Hg]; · iexact Hg
  isplitl [HO]; · iexact HO
  unfold bodyOut post Φ₁ landing Dat.owesAt Pipeline.owesWithin
  iintro ⟨Hx, Hout, Hl, Hz, Hs, ⟨%W', HO⟩⟩
  isplitl [Hl Hz Hs]
  · isplitl [Hl]; · iexact Hl
    isplitl [Hz] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 100000 in
theorem body_obligation (c : Dev nD) : BodyObligation (dats (F := F) m 0 c) (defs₀ (F := F)) 𝒱₀ false Set.univ := fun t => by
  rw [fin_N0 t, bigSep_W0, bigSep_W0]
  simp only [owns_whole_eq]
  exact sound_body m c

/-! ## The launch's conditions -/

theorem ownSemFacts : Pipeline.OwnSemFacts cfg0.spec osem := by decide

theorem weights_split (c : Dev nD) :
    Pipeline.unscopedRestP Pipeline.Prefetch.none cfg0.spec c (fun b => m ((c : Thread nD τ).loc b)) ⊢ (iprop(weights m c ∗ kept m c) : sProp 𝕄) := by
  rw [Pipeline.unscopedRestP_none]
  refine BIBase.Entails.trans (Entails.of_eq (unscopedRest0_eq c _)) ?_
  unfold weights kept
  rw [bigSep_fin6]
  iintro ⟨H1, H2, H3, H4, H5, H6⟩
  ihave H1 := (toks14 m c main_arg1) $$ H1
  ihave H2 := (toks14 m c main_arg2) $$ H2
  ihave H3 := (toks14 m c main_arg3) $$ H3
  ihave H4 := (toks14 m c main_arg4) $$ H4
  ihave H5 := (toks14 m c main_arg5) $$ H5
  ihave H6 := (toks14 m c main_arg6) $$ H6
  icases H1 with ⟨K1, A1, -⟩
  icases H2 with ⟨K2, A2, -⟩
  icases H3 with ⟨K3, A3, -⟩
  icases H4 with ⟨K4, -, A4⟩
  icases H5 with ⟨K5, -, A5⟩
  icases H6 with ⟨K6, -, A6⟩
  isplitl [A1 A2 A3 A4 A5 A6]
  · isplitl [A1]; · iexact A1
    isplitl [A4]; · iexact A4
    isplitl [A2]; · iexact A2
    isplitl [A5]; · iexact A5
    isplitl [A3]; · iexact A3
    iexact A6
  · unfold tok
    isplitl [K1]; · iexact K1
    isplitl [K2]; · iexact K2
    isplitl [K3]; · iexact K3
    isplitl [K4]; · iexact K4
    isplitl [K5]; · iexact K5
    iexact K6

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  unfold G' start
  iintro ⟨Hw, Hlev, Hcr, -, ⟨%K, #HR, Hlin, Htile⟩⟩
  ihave Hw := (weights_split m c) $$ Hw
  icases Hw with ⟨Hw, Hk⟩
  imodintro
  isplitr [Hk]
  · isplitr; · iexists K; iexact HR
    isplitl [Hlev]; · iexact Hlev
    isplitl [Hlin]; · iexact Hlin
    isplitl [Hcr]; · iexact Hcr
    isplitl [Htile] <;> iassumption
  · iexact Hk

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold start weights Φ₀ localRes bufE
  iintro ⟨⟨HR, HL, Hlin, Hcr, Htile, W1, W4, W2, W5, W3, W6⟩, -, B0, B1, B2, B3, B4, B5, B6⟩
  ihave Hwin := (win_split c) $$ B3
  ihave Hwout := (wout_split c) $$ B4
  ihave Hland := (landing_split c) $$ [B5 B6]
  · isplitl [B5] <;> iassumption
  ihave Hg := (ghosts_intro c) $$ [Hland Hlin Hcr]
  · isplitl [Hland]; · iexact Hland
    isplitl [Hlin] <;> iassumption
  icases Hwin with ⟨I0, I1, I2, I3, I4, I5⟩
  icases Hwout with ⟨J0, J1, J2, J3, J4, J5⟩
  isplitl [HR]; · iexact HR
  isplitl [HL]; · iexact HL
  isplitr [Hg]
  · isplitl [B0]; · iexact B0
    isplitl [B1]; · iexact B1
    isplitl [B2]; · iexact B2
    isplitl [I0]; · iexact I0
    isplitl [I1]; · iexact I1
    isplitl [I2]; · iexact I2
    isplitl [I3]; · iexact I3
    isplitl [I4]; · iexact I4
    isplitl [I5]; · iexact I5
    isplitl [J0]; · iexact J0
    isplitl [J1]; · iexact J1
    isplitl [J2]; · iexact J2
    isplitl [J3]; · iexact J3
    isplitl [J4]; · iexact J4
    isplitl [J5]; · iexact J5
    isplitl [W1]; · iexact W1
    isplitl [W4]; · iexact W4
    isplitl [W2]; · iexact W2
    isplitl [W5]; · iexact W5
    isplitl [W3]; · iexact W3
    isplitl [W6]; · iexact W6
    iexact Htile
  · iexact Hg

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ localRes bufE
  rw [zeros_eq]
  iintro ⟨⟨B0, B1, B2, I0, I1, I2, I3, I4, I5, J0, J1, J2, J3, J4, J5, -, -, -, -, -, -, Htile⟩, ⟨Hb, Hx⟩, Hland⟩
  ihave Hwin := (win_join m c) $$ [I0 I1 I2 I3 I4 I5]
  · isplitl [I0]; · iexact I0
    isplitl [I1]; · iexact I1
    isplitl [I2]; · iexact I2
    isplitl [I3]; · iexact I3
    isplitl [I4]; · iexact I4
    iexact I5
  ihave Hwout := (wout_join m c) $$ [J0 J1 J2 J3 J4 J5]
  · isplitl [J0]; · iexact J0
    isplitl [J1]; · iexact J1
    isplitl [J2]; · iexact J2
    isplitl [J3]; · iexact J3
    isplitl [J4]; · iexact J4
    iexact J5
  ihave Hland := (landing_join m c) $$ Hland
  icases Hland with ⟨B5, B6⟩
  isplitl [Hb]; · iexact Hb
  isplitl [Htile Hx]
  · isplitl [Htile] <;> iassumption
  isplitl [B0]; · iexact B0
  isplitl [B1]; · iexact B1
  isplitl [B2]; · iexact B2
  isplitl [Hwin]; · iexact Hwin
  isplitl [Hwout]; · iexact Hwout
  isplitl [B5] <;> iassumption

theorem waits (c : Dev nD) : (levAts L lv : sProp 𝕄) ⊢ Pipeline.cellsWaits cfgs (dats m) false 0 c :=
  Pipeline.cellsWaits_intro cfgs (dats m) false 0 c fun w s t => by
    rcases t with ⟨_ | _, ht⟩
    · exact mayWait_of c _ false 12 0 (le_of_eq (if_neg (by decide))) (lvl_all c)
    · exact mayWait_of c _ false 0 0 (le_of_eq (if_neg (by decide))) fun k hk => absurd hk (Nat.not_lt_zero k)

/-! ## The run -/

/-- What a final state is known to be. -/
def Fin₀ (s : MemSt nD τ sig (Elt F)) : Prop :=
  (∀ c : Dev nD, (∀ w : Fin cfg0.W, s.mem ((cfg0.win w).arr.view.loc (c : Thread nD τ)) = (dats m 0 c).arrAt w cfg0.N)
    ∧ ∀ i : Fin 6, s.mem ((c : Thread nD τ).loc (wRef i)) = m ((c : Thread nD τ).loc (wRef i))) ∧ s.sem = fun _ => 0

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Bool) (Val := Elt F) (Name := ℕ) (U := UU) (Lvl := ℕ)).toEmb.op_of_mem
    (Prod.mk_mem_op (URA.mem_op_one a) (URA.mem_one_op (b, (1 : Counters)))))

set_option maxRecDepth 100000 in
theorem run_main : θ_run defs (onTc (τ := τ) (main (F := F))) (s₀ m ρ) (fun r => Fin₀ m r.2) :=
  Pipeline.θ_run_region_owing_glob_pf (fun p => (cfgs p).toPCfg) (fun p => (cfgs p).toPCfg_adm) (dats m) false cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := kept m)
    (hX := start_intro m ρ) (hin := phi0_intro m) (hout := phi1_exit m)
    (QY := fun c s => (∀ sm : SemLoc sig, sm.isScoped .tc = false → s.sem ((c.tc : Thread nD τ), sm) = 0)
      ∧ ∀ i : Fin 6, s.mem ((c : Thread nD τ).loc (wRef i)) = m ((c : Thread nD τ).loc (wRef i)))
    (hY := fun c s' => by
      unfold kept
      iintro ⟨Hu, Hk, HSI⟩
      ihave Hr := (pointsTo_read_all Finset.univ (fun i : Fin 6 => (c : Thread nD τ).loc (wRef i)) (fun i => m ((c : Thread nD τ).loc (wRef i))) s'
        (shareTokN fullShare 0)) $$ [Hk HSI]
      · isplitl [Hk] <;> iassumption
      icases Hr with ⟨%hr, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, fun i => hr i (Finset.mem_univ i)⟩
      iexact HSI)
    (hQ := fun _ h hs => ⟨fun c => ⟨(h c).1, (h c).2.2.2⟩, sem_eq_zero hs fun c => (h c).2.2.1⟩)

/-- The input after the run, and the result. -/
theorem final_x (c : Dev nD) : (dats m 0 c).arrAt (0 : Fin 2) cfg0.N = m ((c : Thread nD τ).loc main_arg0) :=
  (dats (F := F) m 0 c).arrAt_in (0 : Fin 2) rfl _

end Cert.KernelIdeal.Hand

end
-- ==== Proof.Final.lean ====
/-
# The run, read at the arrays

The pipeline's one write-back puts the staged result into the result array, which is one block. So every final state has
each device's rows there, the seven arguments as they were, and every semaphore at zero.
-/
module

public import proofs.«01_k».proof.Proof.Run
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- What the pipeline writes back is the staged result, whole. -/
theorem flushed_out (c : Dev nD) (t : Fin cfg0.N) :
    (dats m 0 c).flushed 1 t = ((cfg0.win 1).blk t).view.read (Elt F) (outV m c : Buf (Elt F) ((c : Thread nD τ).loc main_v1)) := by
  obtain rfl : t = t0_0 := fin_N0 t
  have h0 : (fun a => win0_1.index t0_0 a * main_v1.ty.shape.size a) = fun _ => 0 := funext fun a => by fin_cases a <;> decide
  exact (Memref.read_access_unit_zero (Elt F) main_v1 h0 (fun a => by rw [congrFun h0 a]; simp) (outV m c)).symm

theorem final_out (c : Dev nD) : (dats m 0 c).arrAt 1 cfg0.N = (outV m c : Buf (Elt F) ((c : Thread nD τ).loc main_v1)) :=
  (dats m 0 c).arrAt_eq_of_cover 1 (outV m c) (fun t _ => flushed_out m c t) fun i =>
    ⟨t0_0, by decide, by
      show i ∈ ((View.whole main_v1).slice (win0_1.rect t0_0)).set
      rw [View.set_slice_whole, Rect.mem_set_unit]
      intro a
      match a with
      | ⟨0, _⟩ =>
        have hi : (i 0 : ℕ) < 16 := (i 0).isLt
        exact ⟨Nat.zero_le _, lt_of_lt_of_eq hi (by decide +kernel : 16 = win0_1.kind.off (win0_1.index t0_0 0) (win0_1.size 0) + win0_1.xsize (grid0.coords t0_0) 0)⟩
      | ⟨1, _⟩ =>
        have hi : (i 1 : ℕ) < 2048 := (i 1).isLt
        exact ⟨Nat.zero_le _, lt_of_lt_of_eq hi (by decide +kernel : 2048 = win0_1.kind.off (win0_1.index t0_0 1) (win0_1.size 1) + win0_1.xsize (grid0.coords t0_0) 1)⟩⟩

/-- The seven arguments of device `c` are in `s` as they were. -/
def Kept (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

theorem run_read : θ_run defs (onTc (τ := τ) (main (F := F))) ⟨m, fun _ => 0, ρ⟩ fun r =>
    (∀ c : Dev nD, r.2.mem ((c : Thread nD τ).loc main_v1) = outV m c ∧ Kept m r.2 c) ∧ r.2.sem = fun _ => 0 :=
  (θ_run defs _ _).mono (fun _ h => ⟨fun c => ⟨((h.1 c).1 1).trans (final_out m c), ((h.1 c).1 0).trans (final_x m c),
    (h.1 c).2 0, (h.1 c).2 1, (h.1 c).2 2, (h.1 c).2 3, (h.1 c).2 4, (h.1 c).2 5⟩, h.2⟩) (run_main m ρ)

end Cert.KernelIdeal.Hand

end
-- ==== Proof.Values.lean ====
/-
# The values over the extended reals

One layer of the reference is `max(x · W, 0) · O` with the whole weights. A device's partial product is the same double
sum with the hidden axis cut down to its own part, eight tiles of 512. The four devices' parts cover the hidden axis once,
so what every device holds after an exchange is the layer's whole output, whichever order it added the parts in.
-/
module

public import proofs.«01_k».proof.Proof.Spec
public import Idealize.ShloMosaic.PureOps.Ideal.Laws
public import Idealize.ShloMosaic.Lib.IdealHost
public import Idealize.ShloMosaic.Lib.MatmulPlain
public import Idealize.ShloMosaic.Lib.StackMember
public import Idealize.ShloMosaic.Lib.Layout
public import Idealize.ShloMosaic.Lib.Pipeline.Value
public import Mathlib.Algebra.BigOperators.Fin

@[expose] public section

noncomputable section

namespace Cert.KernelIdeal.Hand

open Cert.KernelIdeal Cert.KernelIdeal.Gen
open Idealize.ShloMosaic Idealize.ShloMosaic.TcCoe Idealize.ShloMosaic.ValueIdx
open scoped BigOperators

/-- The whole weights' shapes, and the hidden activations'. -/
abbrev SW : Shape := ⟨2, ![2048, 16384]⟩
abbrev SO : Shape := ⟨2, ![16384, 2048]⟩
abbrev SH : Shape := ⟨2, ![64, 16384]⟩

/-- One hidden unit's contribution to entry `(r, n)`: `max(Σⱼ x[r, j] · wi[j, h], 0) · wo[h, n]`. -/
def unit {K : ℕ} (x : FVec Ideal S64x2048 .f32) (wi : FVec Ideal ⟨2, ![2048, K]⟩ .f32) (wo : FVec Ideal ⟨2, ![K, 2048]⟩ .f32)
    (r : Fin 64) (n : Fin 2048) (h : Fin K) : EReal :=
  max (∑ j : Fin 2048, (x (ix2 r j) : EReal) * wi (ix2 j h)) 0 * wo (ix2 h n)

/-- One layer with the whole weights. -/
def layer (x : FVec Ideal S64x2048 .f32) (W : FVec Ideal SW .f32) (O : FVec Ideal SO .f32) : FVec Ideal S64x2048 .f32 :=
  fun i => ∑ h : Fin 16384, unit x W O (i 0) (i 1) h

/-! ## The kernel's partial products -/

theorem zero_word : (FloatOps.ofBits (F := Ideal) .f32 0x00000000#32 : Ideal .f32) = (0 : EReal) := Ideal.ofBits_zero_f32

theorem stepV_apply (x : FVec Ideal S64x2048 .f32) (wi : FVec Ideal S2048x512 .f32) (wo : FVec Ideal S512x2048 .f32)
    (r : Fin 64) (n : Fin 2048) : stepV x wi wo (ix2 r n) = ∑ u : Fin 512, unit x wi wo r n u := by
  refine (Ideal.matmul_plain_apply (M := 64) (K := 512) (N := 2048) none _ wo (constant S64x2048 .f32 0x00000000#32) r n).trans ?_
  refine (congrArg (· + _) zero_word).trans ((zero_add _).trans (Finset.sum_congr rfl fun u _ => ?_))
  refine congrArg (· * (wo (ix2 u n) : EReal)) (congrArg₂ max ?_ zero_word)
  refine (Ideal.matmul_plain_apply (M := 64) (K := 2048) (N := 512) none x wi (constant S64x512 .f32 0x00000000#32) r u).trans ?_
  exact (congrArg (· + _) zero_word).trans (zero_add _)

theorem accN_apply (x : FVec Ideal S64x2048 .f32) (wi : Fin 8 → FVec Ideal S2048x512 .f32) (wo : Fin 8 → FVec Ideal S512x2048 .f32)
    (i : S64x2048.Idx) : ∀ n : ℕ, accN x wi wo n i = ∑ t ∈ Finset.range (n + 1), (stepV x (wi (Fin.ofNat 8 t)) (wo (Fin.ofNat 8 t)) i : EReal)
  | 0 => (Finset.sum_range_one (fun t => (stepV x (wi (Fin.ofNat 8 t)) (wo (Fin.ofNat 8 t)) i : EReal))).symm
  | n + 1 => (congrArg (· + _) (accN_apply x wi wo i n)).trans
      (Finset.sum_range_succ (fun t => (stepV x (wi (Fin.ofNat 8 t)) (wo (Fin.ofNat 8 t)) i : EReal)) (n + 1)).symm

theorem acc_eight (x : FVec Ideal S64x2048 .f32) (wi : Fin 8 → FVec Ideal S2048x512 .f32) (wo : Fin 8 → FVec Ideal S512x2048 .f32)
    (r : Fin 64) (n : Fin 2048) : accN x wi wo 7 (ix2 r n) = ∑ t : Fin 8, ∑ u : Fin 512, unit x (wi t) (wo t) r n u := by
  rw [accN_apply, ← Fin.sum_univ_eq_sum_range (fun t => (stepV x (wi (Fin.ofNat 8 t)) (wo (Fin.ofNat 8 t)) (ix2 r n) : EReal)) 8]
  refine Finset.sum_congr rfl fun t _ => ?_
  rw [show Fin.ofNat 8 (t : ℕ) = t from Fin.ext (Nat.mod_eq_of_lt t.isLt)]
  exact stepV_apply ..

/-! ## The hidden axis -/

/-- Unit `u` of tile `t` of device `d`'s part. -/
def hid (d : Fin 4) (t : Fin 8) (u : Fin 512) : Fin 16384 := ⟨4096 * d.val + 512 * t.val + u.val, by omega⟩

theorem sum_hid (f : Fin 16384 → EReal) : ∑ d : Fin 4, ∑ t : Fin 8, ∑ u : Fin 512, f (hid d t u) = ∑ h : Fin 16384, f h := by
  rw [← Equiv.sum_comp ((finProdFinEquiv (m := 4 * 8) (n := 512)).trans (finCongr (by decide))) f, Fintype.sum_prod_type,
    ← Equiv.sum_comp (finProdFinEquiv (m := 4) (n := 8)), Fintype.sum_prod_type]
  refine Finset.sum_congr rfl fun d _ => Finset.sum_congr rfl fun t _ => Finset.sum_congr rfl fun u _ => congrArg f (Fin.ext ?_)
  show 4096 * d.val + 512 * t.val + u.val = u.val + 512 * (t.val + 8 * d.val)
  omega

/-- Adding one's own part first and the others' in the order of the slots is adding all four. -/
theorem sum_turn (g : Dev nD → EReal) (c : Dev nD) : g c + g (srcD 0 c) + g (srcD 1 c) + g (srcD 2 c) = ∑ d : Fin 4, g d := by
  have e : srcD 0 c = c + 1 ∧ srcD 1 c = c + 2 ∧ srcD 2 c = c + 3 := by revert c; decide
  rw [e.1, e.2.1, e.2.2, ← Equiv.sum_comp (Equiv.addLeft c) g, Fin.sum_univ_four]
  exact congrArg (· + g (c + 1) + g (c + 2) + g (c + 3)) (congrArg g (add_zero c).symm)

/-! ## A layer of the kernel -/

variable (m : (ℓ : Loc nD τ sig) → Buf (Elt Ideal) ℓ)

/-- The devices hold the parts of the whole weights `W` and `O` of layer `l`. -/
def Holds (l : ℕ) (W : FVec Ideal SW .f32) (O : FVec Ideal SO .f32) : Prop :=
  ∀ (c : Dev nD) (t : Fin 8) (u : Fin 512) (j : Fin 2048),
    wiBlk m c l t (ix2 j u) = W (ix2 j (hid c t u)) ∧ woBlk m c l t (ix2 u j) = O (ix2 (hid c t u) j)

theorem partV_apply {l : ℕ} {W : FVec Ideal SW .f32} {O : FVec Ideal SO .f32} (H : Holds m l W O) (c : Dev nD)
    (x : FVec Ideal S64x2048 .f32) (r : Fin 64) (n : Fin 2048) :
    partV m c l x (ix2 r n) = ∑ t : Fin 8, ∑ u : Fin 512, unit x W O r n (hid c t u) := by
  refine (acc_eight x (wiBlk m c l) (woBlk m c l) r n).trans ?_
  refine Finset.sum_congr rfl fun t _ => Finset.sum_congr rfl fun u _ => ?_
  unfold unit
  rw [(H c t u n).2]
  exact congrArg (fun s => max s (0 : EReal) * (O (ix2 (hid c t u) n) : EReal))
    (Finset.sum_congr rfl fun j _ => congrArg ((x (ix2 r j) : EReal) * ·) (H c t u j).1)

/-- If every device starts layer `l` from the same `x`, every device ends it with the layer's output. -/
theorem inV_layer {l : ℕ} {W : FVec Ideal SW .f32} {O : FVec Ideal SO .f32} (H : Holds m l W O) {x : FVec Ideal S64x2048 .f32}
    (hx : ∀ c, inV m l c = x) (c : Dev nD) : inV m (l + 1) c = layer x W O := by
  funext i
  rw [eq_ix2 i]
  have key : ∀ d : Dev nD, (accV m l d (ix2 (i 0) (i 1)) : EReal) = ∑ t : Fin 8, ∑ u : Fin 512, unit x W O (i 0) (i 1) (hid d t u) := fun d => by
    unfold accV; rw [hx d]; exact partV_apply m H d x (i 0) (i 1)
  refine (sum_turn (fun d => (accV m l d (ix2 (i 0) (i 1)) : EReal)) c).trans ?_
  rw [Finset.sum_congr rfl fun d _ => key d]
  exact sum_hid (fun h => unit x W O (i 0) (i 1) h)

/-- The rows a device returns are its rows of the last layer's output. -/
theorem outV_rows (c : Dev nD) : outV m c = Layout.block S16x2048 S64x2048 0 4 c (inV m 3 c) := by
  funext i
  have hi : (Rect.unit (s := S64x2048) ![16 * c.val, 0] S16x2048.size (inb_row c)).emb i
      = (by decide : Layout.Tiles S16x2048 S64x2048 0 4).idx c i := by
    funext a
    apply Fin.ext
    match a with
    | ⟨0, _⟩ => show 16 * c.val + 1 * (i 0).val = c.val * 16 + (i 0).val; omega
    | ⟨1, _⟩ => show 0 + 1 * (i 1).val = (i 1).val; omega
  exact congrArg (inV m 3 c) hi

end Cert.KernelIdeal.Hand

end
-- ==== Proof.Algebra.lean ====
/-
# The kernel's rows are the reference's

The whole weights cut over the devices are what each device's tiles read. So after each layer every device holds the
reference's layer output, and the rows each device returns are its block of the reference's result.
-/
module

public import proofs.«01_k».proof.Defs
public import proofs.«01_k».proof.Proof.Values
public import proofs.«01_k».proof.Proof.Gen.ReferenceIdeal.Run

@[expose] public section

noncomputable section

namespace Cert.KernelIdeal.Hand

open Cert.KernelIdeal Cert.KernelIdeal.Gen
open Idealize.ShloMosaic Idealize.ShloMosaic.TcCoe Idealize.ShloMosaic.ValueIdx
open scoped BigOperators

/-! ## The reference's layer -/

theorem ref_layer (x : FVec Ideal S64x2048 .f32) (W : FVec Ideal SW .f32) (O : FVec Ideal SO .f32) :
    Host.dotGeneral Cert.ReferenceIdeal.dot_S64x16384_S16384x2048_S64x2048_1_0_0_1_n_n none
      (maximumf (Host.dotGeneral Cert.ReferenceIdeal.dot_S64x2048_S2048x16384_S64x16384_1_0_0_1_n_n none x W)
        (broadcastInDim SH ![] Cert.ReferenceIdeal.Facts₀.bcast_S_S64x16384 (constant Cert.ReferenceIdeal.S_ .f32 0x00000000#32))) O
      = layer x W O := by
  funext i
  rw [eq_ix2 i]
  refine (StackMember.dotGeneral_plain_apply (m := 64) (k := 16384) (n := 2048) none _ O (i 0) (i 1)).trans (Finset.sum_congr rfl fun h _ => ?_)
  refine congrArg (· * (O (ix2 h (i 1)) : EReal)) (congrArg₂ max ?_ zero_word)
  exact StackMember.dotGeneral_plain_apply (m := 64) (k := 2048) (n := 16384) none x W (i 0) h

/-! ## The cut weights -/

variable (m : (ℓ : Loc nD τ sig) → Buf (Elt Ideal) ℓ)

/-- Tile `t` of a device's columns of the whole `W` is the columns of `W` at that device's hidden units. -/
theorem cut_cols (W : FVec Ideal SW .f32) (c : Dev nD) (t : Fin 8) (u : Fin 512) (j : Fin 2048) :
    (Layout.block S2048x4096 SW 1 4 c W) ((Rect.unit (s := S2048x4096) ![0, 512 * t.val] S2048x512.size (inb_wi t)).emb (ix2 j u))
      = W (ix2 j (hid c t u)) := by
  refine congrArg W (funext fun a => Fin.ext ?_)
  match a with
  | ⟨0, _⟩ => show 0 + 1 * j.val = j.val; omega
  | ⟨1, _⟩ => show c.val * 4096 + (512 * t.val + 1 * u.val) = 4096 * c.val + 512 * t.val + u.val; omega

theorem cut_rows (O : FVec Ideal SO .f32) (c : Dev nD) (t : Fin 8) (u : Fin 512) (j : Fin 2048) :
    (Layout.block S4096x2048 SO 0 4 c O) ((Rect.unit (s := S4096x2048) ![512 * t.val, 0] S512x2048.size (inb_wo t)).emb (ix2 u j))
      = O (ix2 (hid c t u) j) := by
  refine congrArg O (funext fun a => Fin.ext ?_)
  match a with
  | ⟨0, _⟩ => show c.val * 4096 + (512 * t.val + 1 * u.val) = 4096 * c.val + 512 * t.val + u.val; omega
  | ⟨1, _⟩ => show 0 + 1 * j.val = j.val; omega

theorem holds_0 {W : FVec Ideal SW .f32} {O : FVec Ideal SO .f32}
    (hW : ∀ c : Dev nD, m ((c : Thread nD τ).loc main_arg1) = Layout.block S2048x4096 SW 1 4 c W)
    (hO : ∀ c : Dev nD, m ((c : Thread nD τ).loc main_arg4) = Layout.block S4096x2048 SO 0 4 c O) : Holds m 0 W O := fun c t u j =>
  ⟨(congrFun (hW c) _).trans (cut_cols W c t u j), (congrFun (hO c) _).trans (cut_rows O c t u j)⟩
theorem holds_1 {W : FVec Ideal SW .f32} {O : FVec Ideal SO .f32}
    (hW : ∀ c : Dev nD, m ((c : Thread nD τ).loc main_arg2) = Layout.block S2048x4096 SW 1 4 c W)
    (hO : ∀ c : Dev nD, m ((c : Thread nD τ).loc main_arg5) = Layout.block S4096x2048 SO 0 4 c O) : Holds m 1 W O := fun c t u j =>
  ⟨(congrFun (hW c) _).trans (cut_cols W c t u j), (congrFun (hO c) _).trans (cut_rows O c t u j)⟩
theorem holds_2 {W : FVec Ideal SW .f32} {O : FVec Ideal SO .f32}
    (hW : ∀ c : Dev nD, m ((c : Thread nD τ).loc main_arg3) = Layout.block S2048x4096 SW 1 4 c W)
    (hO : ∀ c : Dev nD, m ((c : Thread nD τ).loc main_arg6) = Layout.block S4096x2048 SO 0 4 c O) : Holds m 2 W O := fun c t u j =>
  ⟨(congrFun (hW c) _).trans (cut_cols W c t u j), (congrFun (hO c) _).trans (cut_rows O c t u j)⟩

/-- The staged input is the argument, whole. -/
theorem xstg_eq (c : Dev nD) : xstg m c = m ((c : Thread nD τ).loc main_arg0) := by
  have h0 : (fun a => win0_0.index t0_0 a * main_arg0.ty.shape.size a) = fun _ => 0 := funext fun a => by fin_cases a <;> decide
  exact Memref.read_access_unit_zero (Elt Ideal) main_arg0 h0 (fun a => by rw [congrFun h0 a]; simp) (m ((c : Thread nD τ).loc main_arg0))

/-- Device `c` returns block `c` of the three layers' output. -/
theorem outV_eq {x : FVec Ideal S64x2048 .f32} {W0 W1 W2 : FVec Ideal SW .f32} {O0 O1 O2 : FVec Ideal SO .f32}
    (hx : ∀ c : Dev nD, m ((c : Thread nD τ).loc main_arg0) = x) (h0 : Holds m 0 W0 O0) (h1 : Holds m 1 W1 O1) (h2 : Holds m 2 W2 O2)
    (c : Dev nD) : outV m c = Layout.block S16x2048 S64x2048 0 4 c (layer (layer (layer x W0 O0) W1 O1) W2 O2) := by
  rw [outV_rows, inV_layer m h2 (inV_layer m h1 (inV_layer m h0 fun d => (xstg_eq m d).trans (hx d)))]

end Cert.KernelIdeal.Hand

end
-- ==== Proof.lean ====
/-
# The claims

The two kernels' frames are their runs read at the arguments and the counters; the reference's is its run. The pass rewrote
nothing. The values agree layer by layer.
-/
module

public import proofs.«01_k».proof.Defs
public import proofs.«01_k».proof.Proof.Gen.ReferenceIdeal.Run
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.AsPrinted.Final
public import proofs.«01_k».proof.Proof.Final
public import proofs.«01_k».proof.Proof.Algebra
public import Idealize.ShloMosaic.Lib.Quiescent

@[expose] public section

noncomputable section

namespace Cert.Proof

open Idealize.ShloMosaic Idealize.ShloMosaic.TcCoe Idealize.SL.Sem

theorem frame_kernel : Cert.quiescent_Kernel := fun m g _ =>
  (θ_run Cert.Kernel.defs _ _).mono (fun _ h => ⟨fun c => (h.1 c).2, h.2⟩) (Cert.Kernel.Hand.run_read (F := Bits) m g)

theorem frame_ideal : Cert.quiescent_KernelIdeal := fun m g _ =>
  (θ_run Cert.KernelIdeal.defs _ _).mono (fun _ h => ⟨fun c => (h.1 c).2, h.2⟩) (Cert.KernelIdeal.Hand.run_read (F := Ideal) m g)

theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

open Cert.KernelIdeal.Hand in
theorem values : Cert.algebraic_KernelIdeal_ReferenceIdeal := fun m g m' g' _ hm => by
  have hx := fun c => (hm c).1
  have h0 := holds_0 m (fun c => (hm c).2.1) fun c => (hm c).2.2.2.2.1
  have h1 := holds_1 m (fun c => (hm c).2.2.1) fun c => (hm c).2.2.2.2.2.1
  have h2 := holds_2 m (fun c => (hm c).2.2.2.1) fun c => (hm c).2.2.2.2.2.2
  refine ⟨_, (θ_run Cert.KernelIdeal.defs _ _).mono (fun _ h c => ⟨(h.1 c).1.trans (outV_eq m hx h0 h1 h2 c), (h.1 c).2⟩)
    (run_read (F := Ideal) m g), (θ_run Cert.ReferenceIdeal.defs _ _).mono (fun _ h => ⟨(h 0).1.trans ?_, (h 0).2⟩) (Cert.ReferenceIdeal.Value.run (F := Ideal) m' g')⟩
  exact (ref_layer _ _ _).trans (congrArg (layer · _ _) ((ref_layer _ _ _).trans (congrArg (layer · _ _) (ref_layer _ _ _))))

theorem claim : Cert.Claim :=
  ⟨Cert.Kernel.Gen.facts, Cert.KernelIdeal.Gen.facts, Cert.ReferenceIdeal.Gen.facts, frame_kernel, frame_ideal, frame_reference, trivial, values⟩

end Cert.Proof

end
